-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_in_range [hPre_scales_in_range : Cert.Pre_scales_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_in_range [hPre_scales_in_range : Cert.Pre_scales_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scales_in_range [hKernelIdeal : Cert.KernelIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scales_in_range [hReferenceIdeal : Cert.ReferenceIdeal.Facts] [hPre_scales_in_range : Cert.Pre_scales_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scales_in_range [hKernelIdeal : Cert.KernelIdeal.Facts] [hReferenceIdeal : Cert.ReferenceIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scales_in_range : Cert.Pre_scales_in_range.Facts),
    quiescent_Kernel (hKernel := hKernel)
    ∧ quiescent_KernelIdeal (hKernelIdeal := hKernelIdeal)
    ∧ quiescent_KernelIdeal_pre_scales_in_range (hKernelIdeal := hKernelIdeal) (hPre_scales_in_range := hPre_scales_in_range)
    ∧ quiescent_ReferenceIdeal (hReferenceIdeal := hReferenceIdeal)
    ∧ quiescent_ReferenceIdeal_pre_scales_in_range (hReferenceIdeal := hReferenceIdeal) (hPre_scales_in_range := hPre_scales_in_range)
    ∧ preserves_Kernel_KernelIdeal
    ∧ algebraic_KernelIdeal_ReferenceIdeal_pre_scales_in_range (hKernelIdeal := hKernelIdeal) (hReferenceIdeal := hReferenceIdeal) (hPre_scales_in_range := hPre_scales_in_range)
-- ==== Pre_scales_in_range.lean ====
abbrev S6x2048x2048 : Shape := ⟨3, ![6, 2048, 2048]⟩
abbrev S6x2048x16 : Shape := ⟨3, ![6, 2048, 16]⟩
abbrev S2048x64 : Shape := ⟨2, ![2048, 64]⟩
abbrev S64 : Shape := ⟨1, ![64]⟩
abbrev S_ : Shape := ⟨0, ![]⟩

class Facts : Prop where
  bcast_S_S6x2048x16 : S_.BroadcastsInDim S6x2048x16 (![] : Fin 0 → Fin S6x2048x16.rank)
  reducesTo_S6x2048x16_S_d0_1_2 : S6x2048x16.ReducesTo [0, 1, 2] S_
  h_S_ : 0 < S_.numel

variable [Facts]

def fn {F : FTy → Type} [FloatOps F] (main_arg0 : FVec F S6x2048x2048 .fp8e4m3) (main_arg1 : FVec F S6x2048x16 .f32) (main_arg2 : FVec F S2048x64 .fp8e4m3) (main_arg3 : FVec F S64 .f32) (main_arg4 : FVec F S64 .f32) : IVec S_ 1 :=
  let main_cst : FVec F S_ .f32 := constant S_ .f32 0x00000000#32
  let main_v0 : FVec F S6x2048x16 .f32 := broadcastInDim S6x2048x16 ![] bcast_S_S6x2048x16 main_cst
  let main_v1 : IVec S6x2048x16 1 := cmpf .oge main_arg1 main_v0
  let main_cst_0 : FVec F S_ .f32 := constant S_ .f32 0x7F800000#32
  let main_v2 : FVec F S6x2048x16 .f32 := broadcastInDim S6x2048x16 ![] bcast_S_S6x2048x16 main_cst_0
  let main_v3 : IVec S6x2048x16 1 := cmpf .olt main_arg1 main_v2
  let main_v4 : IVec S6x2048x16 1 := andi main_v1 main_v3
  let main_c : IVec S_ 1 := constantI S_ 1 1#1
  let main_v5 : IVec S_ 1 := (fun x v => Host.reduce IntOp.andi x v reducesTo_S6x2048x16_S_d0_1_2 h_S_) main_v4 main_c
  main_v5
-- ==== Kernel.lean ====
abbrev S6x2048x2048 : Shape := ⟨3, ![6, 2048, 2048]⟩
abbrev S6x2048x16 : Shape := ⟨3, ![6, 2048, 16]⟩
abbrev S2048x64 : Shape := ⟨2, ![2048, 64]⟩
abbrev S64 : Shape := ⟨1, ![64]⟩
abbrev S12288x2048 : Shape := ⟨2, ![12288, 2048]⟩
abbrev S6x16x2048 : Shape := ⟨3, ![6, 16, 2048]⟩
abbrev S64x2048 : Shape := ⟨2, ![64, 2048]⟩
abbrev S64x1 : Shape := ⟨2, ![64, 1]⟩
abbrev S6x8x2048 : Shape := ⟨3, ![6, 8, 2048]⟩
abbrev S1024x2048 : Shape := ⟨2, ![1024, 2048]⟩
abbrev S1x16x1024 : Shape := ⟨3, ![1, 16, 1024]⟩
abbrev S1x8x1024 : Shape := ⟨3, ![1, 8, 1024]⟩
abbrev S8x128x256 : Shape := ⟨3, ![8, 128, 256]⟩
abbrev S64x1024 : Shape := ⟨2, ![64, 1024]⟩
abbrev S544x128 : Shape := ⟨2, ![544, 128]⟩
abbrev S72x128 : Shape := ⟨2, ![72, 128]⟩
abbrev S64x128 : Shape := ⟨2, ![64, 128]⟩
abbrev S64x256 : Shape := ⟨2, ![64, 256]⟩
abbrev S1x64x128 : Shape := ⟨3, ![1, 64, 128]⟩
abbrev S256x256 : Shape := ⟨2, ![256, 256]⟩
abbrev S1x128x256 : Shape := ⟨3, ![1, 128, 256]⟩
abbrev S128x256 : Shape := ⟨2, ![128, 256]⟩
abbrev S1x1x256 : Shape := ⟨3, ![1, 1, 256]⟩
abbrev S1x256 : Shape := ⟨2, ![1, 256]⟩
abbrev S8x128 : Shape := ⟨2, ![8, 128]⟩
abbrev S1x8x128 : Shape := ⟨3, ![1, 8, 128]⟩
abbrev S8x128x1 : Shape := ⟨3, ![8, 128, 1]⟩
abbrev S128 : Shape := ⟨1, ![128]⟩
abbrev S1x128 : Shape := ⟨2, ![1, 128]⟩

abbrev nBuf : Space → Nat
  | .hbm => 12
  | .vmem => 15
  | .smem => 0
  | _ => 0

abbrev bufTy : (tb : Table) → Fin (tcTables nBuf tb) → BufTy
  | .hbm, ⟨0, _⟩ => ⟨S6x2048x2048, .fp8e4m3⟩
  | .hbm, ⟨1, _⟩ => ⟨S6x2048x16, .f32⟩
  | .hbm, ⟨2, _⟩ => ⟨S2048x64, .fp8e4m3⟩
  | .hbm, ⟨3, _⟩ => ⟨S64, .f32⟩
  | .hbm, ⟨4, _⟩ => ⟨S64, .f32⟩
  | .hbm, ⟨5, _⟩ => ⟨S12288x2048, .fp8e4m3⟩
  | .hbm, ⟨6, _⟩ => ⟨S6x16x2048, .f32⟩
  | .hbm, ⟨7, _⟩ => ⟨S64x2048, .fp8e4m3⟩
  | .hbm, ⟨8, _⟩ => ⟨S64x1, .f32⟩
  | .hbm, ⟨9, _⟩ => ⟨S64x1, .f32⟩
  | .hbm, ⟨10, _⟩ => ⟨S6x8x2048, .i32⟩
  | .hbm, ⟨11, _⟩ => ⟨S6x8x2048, .f32⟩
  | .local _ .vmem, ⟨0, _⟩ => ⟨S1024x2048, .fp8e4m3⟩
  | .local _ .vmem, ⟨1, _⟩ => ⟨S1024x2048, .fp8e4m3⟩
  | .local _ .vmem, ⟨2, _⟩ => ⟨S1x16x1024, .f32⟩
  | .local _ .vmem, ⟨3, _⟩ => ⟨S1x16x1024, .f32⟩
  | .local _ .vmem, ⟨4, _⟩ => ⟨S64x2048, .fp8e4m3⟩
  | .local _ .vmem, ⟨5, _⟩ => ⟨S64x1, .f32⟩
  | .local _ .vmem, ⟨6, _⟩ => ⟨S64x1, .f32⟩
  | .local _ .vmem, ⟨7, _⟩ => ⟨S1x8x1024, .i32⟩
  | .local _ .vmem, ⟨8, _⟩ => ⟨S1x8x1024, .i32⟩
  | .local _ .vmem, ⟨9, _⟩ => ⟨S1x8x1024, .f32⟩
  | .local _ .vmem, ⟨10, _⟩ => ⟨S1x8x1024, .f32⟩
  | .local _ .vmem, ⟨11, _⟩ => ⟨S8x128x256, .bf16⟩
  | .local _ .vmem, ⟨12, _⟩ => ⟨S64x1024, .f32⟩
  | .local _ .vmem, ⟨13, _⟩ => ⟨S544x128, .f32⟩
  | .local _ .vmem, ⟨14, _⟩ => ⟨S72x128, .i32⟩
  | _, _ => ⟨S6x2048x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x8x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S6x2048x2048 : Shape := ⟨3, ![6, 2048, 2048]⟩
abbrev S6x2048x16 : Shape := ⟨3, ![6, 2048, 16]⟩
abbrev S2048x64 : Shape := ⟨2, ![2048, 64]⟩
abbrev S64 : Shape := ⟨1, ![64]⟩
abbrev S6x2048x16x128 : Shape := ⟨4, ![6, 2048, 16, 128]⟩
abbrev S6x2048x16x1 : Shape := ⟨4, ![6, 2048, 16, 1]⟩
abbrev S6x2048x64 : Shape := ⟨3, ![6, 2048, 64]⟩
abbrev S1x1x64 : Shape := ⟨3, ![1, 1, 64]⟩
abbrev S_ : Shape := ⟨0, ![]⟩
abbrev S6x2048x8x8 : Shape := ⟨4, ![6, 2048, 8, 8]⟩
abbrev S6x2048x8x2 : Shape := ⟨4, ![6, 2048, 8, 2]⟩
abbrev S6x2048x8 : Shape := ⟨3, ![6, 2048, 8]⟩
abbrev S6x2048x4 : Shape := ⟨3, ![6, 2048, 4]⟩
abbrev S6x2048x4x1 : Shape := ⟨4, ![6, 2048, 4, 1]⟩
abbrev S1x1x1x8 : Shape := ⟨4, ![1, 1, 1, 8]⟩
abbrev S6x2048x4x8 : Shape := ⟨4, ![6, 2048, 4, 8]⟩
abbrev S6x2048x8x1 : Shape := ⟨4, ![6, 2048, 8, 1]⟩
abbrev S1 : Shape := ⟨1, ![1]⟩
abbrev S1x1x1x1 : Shape := ⟨4, ![1, 1, 1, 1]⟩
abbrev S6x2048 : Shape := ⟨2, ![6, 2048]⟩
abbrev S6x2048x1 : Shape := ⟨3, ![6, 2048, 1]⟩
abbrev S6x8x2048 : Shape := ⟨3, ![6, 8, 2048]⟩

abbrev nBuf : Space → Nat
  | .hbm => 85
  | .vmem => 4
  | .smem => 0
  | _ => 0

abbrev bufTy : (tb : Table) → Fin (tcTables nBuf tb) → BufTy
  | .hbm, ⟨0, _⟩ => ⟨S6x2048x2048, .fp8e4m3⟩
  | .hbm, ⟨1, _⟩ => ⟨S6x2048x16, .f32⟩
  | .hbm, ⟨2, _⟩ => ⟨S2048x64, .fp8e4m3⟩
  | .hbm, ⟨3, _⟩ => ⟨S64, .f32⟩
  | .hbm, ⟨4, _⟩ => ⟨S64, .f32⟩
  | .hbm, ⟨5, _⟩ => ⟨S6x2048x2048, .bf16⟩
  | .hbm, ⟨6, _⟩ => ⟨S2048x64, .bf16⟩
  | .hbm, ⟨7, _⟩ => ⟨S6x2048x16x128, .bf16⟩
  | .hbm, ⟨8, _⟩ => ⟨S6x2048x16, .bf16⟩
  | .hbm, ⟨9, _⟩ => ⟨S6x2048x16x1, .bf16⟩
  | .hbm, ⟨10, _⟩ => ⟨S6x2048x16x128, .bf16⟩
  | .hbm, ⟨11, _⟩ => ⟨S6x2048x16x128, .bf16⟩
  | .hbm, ⟨12, _⟩ => ⟨S6x2048x2048, .bf16⟩
  | .hbm, ⟨13, _⟩ => ⟨S6x2048x64, .f32⟩
  | .hbm, ⟨14, _⟩ => ⟨S1x1x64, .f32⟩
  | .hbm, ⟨15, _⟩ => ⟨S6x2048x64, .f32⟩
  | .hbm, ⟨16, _⟩ => ⟨S6x2048x64, .f32⟩
  | .hbm, ⟨17, _⟩ => ⟨S6x2048x64, .f32⟩
  | .hbm, ⟨18, _⟩ => ⟨S6x2048x64, .f32⟩
  | .hbm, ⟨19, _⟩ => ⟨S_, .f32⟩
  | .hbm, ⟨20, _⟩ => ⟨S6x2048x64, .f32⟩
  | .hbm, ⟨21, _⟩ => ⟨S6x2048x64, .f32⟩
  | .hbm, ⟨22, _⟩ => ⟨S_, .f32⟩
  | .hbm, ⟨23, _⟩ => ⟨S6x2048x64, .f32⟩
  | .hbm, ⟨24, _⟩ => ⟨S6x2048x64, .f32⟩
  | .hbm, ⟨25, _⟩ => ⟨S1x1x64, .f32⟩
  | .hbm, ⟨26, _⟩ => ⟨S6x2048x64, .f32⟩
  | .hbm, ⟨27, _⟩ => ⟨S6x2048x64, .f32⟩
  | .hbm, ⟨28, _⟩ => ⟨S6x2048x8x8, .f32⟩
  | .hbm, ⟨29, _⟩ => ⟨S6x2048x8x2, .f32⟩
  | .hbm, ⟨30, _⟩ => ⟨S6x2048x8x2, .i32⟩
  | .hbm, ⟨31, _⟩ => ⟨S_, .f32⟩
  | .hbm, ⟨32, _⟩ => ⟨S6x2048x8, .f32⟩
  | .hbm, ⟨33, _⟩ => ⟨S6x2048x4, .f32⟩
  | .hbm, ⟨34, _⟩ => ⟨S6x2048x4, .i32⟩
  | .hbm, ⟨35, _⟩ => ⟨S6x2048x4x1, .i32⟩
  | .hbm, ⟨36, _⟩ => ⟨S1x1x1x8, .i32⟩
  | .hbm, ⟨37, _⟩ => ⟨S6x2048x4x8, .i32⟩
  | .hbm, ⟨38, _⟩ => ⟨S6x2048x4x8, .i32⟩
  | .hbm, ⟨39, _⟩ => ⟨S6x2048x4x8, .i1⟩
  | .hbm, ⟨40, _⟩ => ⟨S6x2048x4x8, .i32⟩
  | .hbm, ⟨41, _⟩ => ⟨S_, .i32⟩
  | .hbm, ⟨42, _⟩ => ⟨S6x2048x8, .i32⟩
  | .hbm, ⟨43, _⟩ => ⟨S_, .i32⟩
  | .hbm, ⟨44, _⟩ => ⟨S6x2048x8, .i32⟩
  | .hbm, ⟨45, _⟩ => ⟨S6x2048x8, .i1⟩
  | .hbm, ⟨46, _⟩ => ⟨S6x2048x8x8, .i1⟩
  | .hbm, ⟨47, _⟩ => ⟨S6x2048x64, .i1⟩
  | .hbm, ⟨48, _⟩ => ⟨S_, .f32⟩
  | .hbm, ⟨49, _⟩ => ⟨S6x2048x64, .f32⟩
  | .hbm, ⟨50, _⟩ => ⟨S6x2048x64, .f32⟩
  | .hbm, ⟨51, _⟩ => ⟨S6x2048x8, .f32⟩
  | .hbm, ⟨52, _⟩ => ⟨S6x2048x8, .i32⟩
  | .hbm, ⟨53, _⟩ => ⟨S_, .i32⟩
  | .hbm, ⟨54, _⟩ => ⟨S6x2048x8, .i32⟩
  | .hbm, ⟨55, _⟩ => ⟨S6x2048x8, .i1⟩
  | .hbm, ⟨56, _⟩ => ⟨S_, .i32⟩
  | .hbm, ⟨57, _⟩ => ⟨S6x2048x8, .i32⟩
  | .hbm, ⟨58, _⟩ => ⟨S6x2048x8, .i32⟩
  | .hbm, ⟨59, _⟩ => ⟨S6x2048x8, .i32⟩
  | .hbm, ⟨60, _⟩ => ⟨S6x2048x8x1, .i32⟩
  | .hbm, ⟨61, _⟩ => ⟨S1, .i32⟩
  | .hbm, ⟨62, _⟩ => ⟨S_, .i32⟩
  | .hbm, ⟨63, _⟩ => ⟨S6x2048x8x1, .i32⟩
  | .hbm, ⟨64, _⟩ => ⟨S6x2048x8x1, .i1⟩
  | .hbm, ⟨65, _⟩ => ⟨S1x1x1x1, .i32⟩
  | .hbm, ⟨66, _⟩ => ⟨S6x2048x8x1, .i32⟩
  | .hbm, ⟨67, _⟩ => ⟨S6x2048x8x1, .i1⟩
  | .hbm, ⟨68, _⟩ => ⟨S6x2048x8x1, .i1⟩
  | .hbm, ⟨69, _⟩ => ⟨S_, .i1⟩
  | .hbm, ⟨70, _⟩ => ⟨S6x2048x8, .i1⟩
  | .hbm, ⟨71, _⟩ => ⟨S6x2048x8, .f32⟩
  | .hbm, ⟨72, _⟩ => ⟨S_, .f32⟩
  | .hbm, ⟨73, _⟩ => ⟨S6x2048x8, .f32⟩
  | .hbm, ⟨74, _⟩ => ⟨S6x2048x8, .f32⟩
  | .hbm, ⟨75, _⟩ => ⟨S_, .f32⟩
  | .hbm, ⟨76, _⟩ => ⟨S6x2048, .f32⟩
  | .hbm, ⟨77, _⟩ => ⟨S6x2048x1, .f32⟩
  | .hbm, ⟨78, _⟩ => ⟨S6x2048x8, .f32⟩
  | .hbm, ⟨79, _⟩ => ⟨S6x2048x8, .f32⟩
  | .hbm, ⟨80, _⟩ => ⟨S_, .f32⟩
  | .hbm, ⟨81, _⟩ => ⟨S6x2048x8, .f32⟩
  | .hbm, ⟨82, _⟩ => ⟨S6x2048x8, .f32⟩
  | .hbm, ⟨83, _⟩ => ⟨S6x8x2048, .i32⟩
  | .hbm, ⟨84, _⟩ => ⟨S6x8x2048, .f32⟩
  | .local _ .vmem, ⟨0, _⟩ => ⟨S6x2048x2048, .fp8e4m3⟩
  | .local _ .vmem, ⟨1, _⟩ => ⟨S2048x64, .fp8e4m3⟩
  | .local _ .vmem, ⟨2, _⟩ => ⟨S6x2048x2048, .bf16⟩
  | .local _ .vmem, ⟨3, _⟩ => ⟨S2048x64, .bf16⟩
  | _, _ => ⟨S6x2048x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_values : Ref sig .tc := ⟨.hbm, 29, rfl⟩
abbrev main_indices : Ref sig .tc := ⟨.hbm, 30, rfl⟩
abbrev main_cst_1 : Ref sig .tc := ⟨.hbm, 31, rfl⟩
abbrev main_v21 : Ref sig .tc := ⟨.hbm, 32, rfl⟩
abbrev main_values_2 : Ref sig .tc := ⟨.hbm, 33, rfl⟩
abbrev main_indices_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v22 : Ref sig .tc := ⟨.hbm, 40, rfl⟩
abbrev main_c : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_call1_v0 : Ref sig .tc := ⟨.hbm, 49, rfl⟩
abbrev main_v28 : Ref sig .tc := ⟨.hbm, 50, rfl⟩
abbrev main_values_6 : Ref sig .tc := ⟨.hbm, 51, rfl⟩
abbrev main_indices_7 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_cst : Ref sig .tc := ⟨.hbm, 72, rfl⟩
abbrev main_call2_v14 : Ref sig .tc := ⟨.hbm, 73, rfl⟩
abbrev main_v29 : Ref sig .tc := ⟨.hbm, 74, rfl⟩
abbrev main_cst_8 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_cst_9 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S6x2048x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Body.lean ====
/- What one grid step of the router kernel computes, written once as functions over whole vectors: the
   logits of a tile of 256 tokens, the choice scores of the 64 experts, the four kept groups, the sorted
   lists of the kept groups' members and their merge, and the weights of the eight chosen experts. The
   modules after this one show that the kernel's stores are these functions and say what they are at one
   token. -/
module

public import proofs.«01_k».proof.Proof.Gen.KernelIdeal

@[expose] public section

noncomputable section

namespace Cert.Body

open Idealize.ShloMosaic Idealize.SL.Sem Cert.KernelIdeal Cert.KernelIdeal.Gen

variable {F : FTy → Type} [FloatOps F]

/-! ## The routing of 8 × 128 tokens -/

/-- One value per token. -/
abbrev Val (F : FTy → Type) := FVec F S8x128 .f32
/-- One integer per token. -/
abbrev Int32 := IVec S8x128 32
/-- One truth value per token. -/
abbrev Mask := IVec S8x128 1

/-- The integer `n` at every token. -/
abbrev lit (n : ℕ) : Int32 := broadcast S8x128 (BitVec.ofNat 32 n)

/-- The larger and the smaller of two values. -/
def pair (a b : Val F) : Val F × Val F := (maximumf a b, minimumf a b)

/-- The two largest of two ordered pairs. -/
def pairMerge (p q : Val F × Val F) : Val F × Val F :=
  (maximumf p.1 q.1, maximumf (minimumf p.1 q.1) (maximumf p.2 q.2))

/-- The two largest of eight values. -/
def topPair (v : ℕ → Val F) : Val F × Val F :=
  pairMerge (pairMerge (pair (v 0) (v 1)) (pair (v 2) (v 3))) (pairMerge (pair (v 4) (v 5)) (pair (v 6) (v 7)))

/-- A group's score: the sum of its two largest choice values. -/
def groupScore (ch : ℕ → Val F) (g : ℕ) : Val F :=
  let p := topPair fun j => ch (8 * g + j)
  addf p.1 p.2

/-- 1 where `s a ≥ s b`, 0 elsewhere. -/
def wins (s : ℕ → Val F) (a b : ℕ) : Int32 := select (cmpf .oge (s a) (s b)) (lit 1) (lit 0)

/-- The number of groups that beat group `g`. -/
def rank (s : ℕ → Val F) (g : ℕ) : Int32 :=
  (List.range' (g + 1) (7 - g)).foldl (fun r b => subi r (wins s g b))
    ((List.range g).foldl (fun r a => addi r (wins s a g)) (lit (7 - g)))

/-- Group `g` is among the best four. -/
def keep (s : ℕ → Val F) (g : ℕ) : Mask := cmpi .slt (rank s g) (lit 4)

/-- The number of kept groups before `g`. -/
def before (s : ℕ → Val F) (g : ℕ) : Int32 :=
  (List.range g).foldl (fun t a => addi t (select (keep s a) (lit 1) (lit 0))) (lit 0)

/-- The `p`-th kept group. -/
def keptGroup (s : ℕ → Val F) (p : ℕ) : Int32 :=
  (List.range' p 4).reverse.foldl
    (fun gid g => select (andi (keep s g) (cmpi .eq (before s g) (lit p))) (lit g) gid) (lit (p + 4))

/-- Eight values with their expert numbers. -/
abbrev Entries (F : FTy → Type) := ℕ → Val F × Int32

/-- The eight experts of the `p`-th kept group. -/
def members (ch : ℕ → Val F) (s : ℕ → Val F) (p : ℕ) : Entries F := fun j =>
  ((List.range' p 4).foldl (fun v g => select (cmpi .eq (keptGroup s p) (lit g)) (ch (8 * g + j)) v) (ch (8 * (p + 4) + j)),
   addi (muli (keptGroup s p) (lit 8)) (lit j))

/-- Places `i` and `j` compared: the larger value to `i`, the numbers exchanged where `swap` holds. -/
def exchange (i j : ℕ) (swap : Entries F → Mask) (e : Entries F) : Entries F := fun k =>
  if k = i then (maximumf (e i).1 (e j).1, select (swap e) (e j).2 (e i).2)
  else if k = j then (minimumf (e i).1 (e j).1, select (swap e) (e i).2 (e j).2)
  else e k

/-- The value at `j` is strictly the larger. -/
def above (i j : ℕ) (e : Entries F) : Mask := cmpf .ogt (e j).1 (e i).1

/-- The value at `j` is larger, or equal with the smaller number. -/
def aboveLex (i j : ℕ) (e : Entries F) : Mask :=
  ori (cmpf .ogt (e j).1 (e i).1) (andi (cmpf .oeq (e j).1 (e i).1) (cmpi .slt (e j).2 (e i).2))

/-- The first places of the neighbours that the sorting network compares, in its order. -/
def sortPlaces : List ℕ :=
  [0, 2, 4, 6, 1, 3, 5, 0, 2, 4, 6, 1, 3, 5, 0, 2, 4, 6, 1, 3, 5, 0, 2, 4, 6, 1, 3, 5]

/-- Eight entries sorted, the largest value first. -/
def sorted (e : Entries F) : Entries F :=
  sortPlaces.foldl (fun e i => exchange i (i + 1) (above i (i + 1)) e) e

/-- The reversed second list is above the first one at place `k`. -/
def fromSecond (a b : Entries F) (k : ℕ) : Mask := cmpf .ogt (b (7 - k)).1 (a k).1

/-- The larger of place `k` of the first list and of the reversed second list. -/
def mergeFirst (a b : Entries F) : Entries F := fun k =>
  (maximumf (a k).1 (b (7 - k)).1, select (fromSecond a b k) (b (7 - k)).2 (a k).2)

/-- The compared places of the last two layers of a merge. -/
def mergePlaces : List (ℕ × ℕ) := [(0, 2), (1, 3), (4, 6), (5, 7), (0, 1), (2, 3), (4, 5), (6, 7)]

/-- The eight largest of two sorted lists, sorted. -/
def merged (a b : Entries F) : Entries F :=
  mergePlaces.foldl (fun e p => exchange p.1 p.2 (aboveLex p.1 p.2) e)
    ((List.range 4).foldl
      (fun e i => exchange i (i + 4) (fun e => ori (cmpf .ogt (e (i + 4)).1 (e i).1) (fromSecond a b i)) e)
      (mergeFirst a b))

/-- The eight chosen experts with their choice values. -/
def chosen (ch : ℕ → Val F) : Entries F :=
  let l := fun p => sorted (members ch (groupScore ch) p)
  merged (merged (l 0) (l 1)) (merged (l 2) (l 3))

/-! ## The scores of a tile of 256 tokens -/

/-- What a step loads: the codes of tile `q`, columns block `k`; the expanded weights of block `k`; the
    scales of tile `q`, block `b`; the expert scales and biases. -/
structure Loads (F : FTy → Type) where
  x : ℕ → ℕ → Vec F S256x256 .fp8e4m3
  w : ℕ → Vec F S1x128x256 .bf16
  xs : ℕ → ℕ → Vec F S1x1x256 .f32
  ws : Vec F S64x1 .f32
  eb : Vec F S64x1 .f32

variable (L : Loads F)

/-- The products of the expanded weights of block `k` with the codes. -/
def part (q k : ℕ) : FVec F S128x256 .f32 :=
  matmul dot_S128x256_S256x256_S128x256_1_1_0_0_n_n none (shapeCast S128x256 (L.w k) shapeCasts_S1x128x256_S128x256)
    (shapeCast S256x256 (L.x q k) shapeCasts_S256x256_S256x256) (constant S128x256 .f32 0x00000000#32)

/-- The rounded scales of block `b`, for every expert. -/
def scale (q b : ℕ) : FVec F S64x256 .f32 :=
  broadcastTo S64x256 (extf .f32 (truncf .bf16 (shapeCast S1x256 (L.xs q b) shapeCasts_S1x1x256_S1x256) bitsLt_bf16_f32) bitsLt_bf16_f32)
    broadcasts_S1x256_S64x256

/-- The first and the second scaled half of the products. -/
def lowTerm (q k : ℕ) : FVec F S64x256 .f32 :=
  mulf (extractStridedSlice S64x256 ![0, 0] (part L q k) slices_S128x256_o0_0_S64x256) (scale L q (2 * k))
def highTerm (q k : ℕ) : FVec F S64x256 .f32 :=
  mulf (extractStridedSlice S64x256 ![64, 0] (part L q k) slices_S128x256_o64_0_S64x256) (scale L q (2 * k + 1))

/-- The logits summed up to block pair `k`. -/
def logits (q : ℕ) : ℕ → FVec F S64x256 .f32
  | 0 => addf (lowTerm L q 0) (highTerm L q 0)
  | k + 1 => addf (addf (logits q k) (lowTerm L q (k + 1))) (highTerm L q (k + 1))

/-- The scores of tile `q`. -/
def scores (q : ℕ) : FVec F S64x256 .f32 :=
  logistic (mulf (logits L q 7) (broadcastTo S64x256 (shapeCast S64x1 L.ws shapeCasts_S64x1_S64x1) broadcasts_S64x1_S64x256))

/-- The choice scores of tile `q`. -/
def choices (q : ℕ) : FVec F S64x256 .f32 :=
  addf (scores L q) (broadcastTo S64x256 (shapeCast S64x1 L.eb shapeCasts_S64x1_S64x1) broadcasts_S64x1_S64x256)

/-- The score scratch's stores, last first. -/
def scorePieces : List (View.Piece (Elt F) S64x1024 .f32) :=
  [⟨Rect.unit ![0, 768] S64x256.size (by decide), shapeCast S64x256 (scores L 3) shapeCasts_S64x256_S64x256⟩,
   ⟨Rect.unit ![0, 512] S64x256.size (by decide), shapeCast S64x256 (scores L 2) shapeCasts_S64x256_S64x256⟩,
   ⟨Rect.unit ![0, 256] S64x256.size (by decide), shapeCast S64x256 (scores L 1) shapeCasts_S64x256_S64x256⟩,
   ⟨Rect.unit ![0, 0] S64x256.size (by decide), shapeCast S64x256 (scores L 0) shapeCasts_S64x256_S64x256⟩]

/-- The two halves of a tile's choice scores, as they are stored. -/
def lowHalf (q : ℕ) : FVec F S64x128 .f32 :=
  shapeCast S64x128 (extractStridedSlice S64x128 ![0, 0] (choices L q) slices_S64x256_o0_0_S64x128) shapeCasts_S64x128_S64x128
def highHalf (q : ℕ) : FVec F S64x128 .f32 :=
  shapeCast S64x128 (extractStridedSlice S64x128 ![0, 128] (choices L q) slices_S64x256_o0_128_S64x128) shapeCasts_S64x128_S64x128

/-- The choice scratch's stores, last first. -/
def choicePieces : List (View.Piece (Elt F) S544x128 .f32) :=
  [⟨Rect.unit ![476, 0] S64x128.size (by decide), highHalf L 3⟩,
   ⟨Rect.unit ![408, 0] S64x128.size (by decide), lowHalf L 3⟩,
   ⟨Rect.unit ![340, 0] S64x128.size (by decide), highHalf L 2⟩,
   ⟨Rect.unit ![272, 0] S64x128.size (by decide), lowHalf L 2⟩,
   ⟨Rect.unit ![204, 0] S64x128.size (by decide), highHalf L 1⟩,
   ⟨Rect.unit ![136, 0] S64x128.size (by decide), lowHalf L 1⟩,
   ⟨Rect.unit ![68, 0] S64x128.size (by decide), highHalf L 0⟩,
   ⟨Rect.unit ![0, 0] S64x128.size (by decide), lowHalf L 0⟩]

/-! ## The step: through the scratch buffers

How a scratch buffer is read back after its stores is a parameter: `rc` reads the choice scratch, `rs` the
slots, `rv` the scores. -/

/-- A reader of a buffer after stores. -/
abbrev Reader (F : FTy → Type) (s : Shape) (e : EltTy) :=
  List (View.Piece (Elt F) s e) → (B : LoadRect s) → B.shape.Idx → Elt F e

/-- Expert `e`'s row of each of the eight token rows. -/
def choiceRect (e : Fin 64) : LoadRect S544x128 :=
  ⟨![e.val, 0], S8x128.size, ![68, 1], by intro a; match a with
    | ⟨0, _⟩ => exact Or.inr (by show e.val + 68 * 7 < 544; omega)
    | ⟨1, _⟩ => exact Or.inr (by show 0 + 1 * 127 < 128; omega)⟩

/-- Place `k` of each of the eight slots. -/
def slotRect (k : Fin 8) : Rect S72x128 :=
  ⟨⟨![k.val, 0], S8x128.size, ![9, 1], by intro a; match a with
    | ⟨0, _⟩ => exact Or.inr (by show k.val + 9 * 7 < 72; omega)
    | ⟨1, _⟩ => exact Or.inr (by show 0 + 1 * 127 < 128; omega)⟩,
   by intro a; match a with
    | ⟨0, _⟩ => exact Nat.succ_pos 8
    | ⟨1, _⟩ => exact Nat.one_pos⟩

/-- The slot of token row `t`. -/
def slotRow (t : Fin 8) : Rect S72x128 :=
  Rect.unit ![9 * t.val, 0] S8x128.size (by intro a; match a with
    | ⟨0, _⟩ => show 9 * t.val + 8 ≤ 72; omega
    | ⟨1, _⟩ => show 0 + 128 ≤ 128; omega)

/-- The scores of group `g` at token row `t`. -/
def scoreRect (g t : Fin 8) : Rect S64x1024 :=
  Rect.unit ![8 * g.val, 128 * t.val] S8x128.size (by intro a; match a with
    | ⟨0, _⟩ => show 8 * g.val + 8 ≤ 64; omega
    | ⟨1, _⟩ => show 128 * t.val + 128 ≤ 1024; omega)

/-- Token row `t` of a result block. -/
def outRect (t : Fin 8) : Rect S1x8x1024 :=
  Rect.unit ![0, 0, 128 * t.val] S1x8x128.size (by intro a; match a with
    | ⟨0, _⟩ => show 0 + 1 ≤ 1; omega
    | ⟨1, _⟩ => show 0 + 8 ≤ 8; omega
    | ⟨2, _⟩ => show 128 * t.val + 128 ≤ 1024; omega)

variable (rc : Reader F S544x128 .f32) (rs : Reader F S72x128 .i32) (rv : Reader F S64x1024 .f32)

/-- The choice values the routing reads. -/
def choiceAt : ℕ → Val F := fun e => rc (choicePieces L) (choiceRect (Fin.ofNat 64 e))

/-- The store of place `k` of the slots. -/
def slotPiece (k : Fin 8) : View.Piece (Elt F) S72x128 .i32 :=
  ⟨slotRect k, shapeCast S8x128 (chosen (choiceAt L rc) k.val).2 shapeCasts_S8x128_S8x128⟩

/-- The slot scratch's stores, last first. -/
def slotPieces : List (View.Piece (Elt F) S72x128 .i32) :=
  [slotPiece L rc 7, slotPiece L rc 6, slotPiece L rc 5, slotPiece L rc 4,
   slotPiece L rc 3, slotPiece L rc 2, slotPiece L rc 1, slotPiece L rc 0]

/-- The chosen experts of token row `t`. -/
def rowIds (t : Fin 8) : Int32 := rs (slotPieces L rc) (slotRow t).toLoadRect

/-- An expert's place in its group, made non-negative. -/
def place (ids : Int32) : Int32 :=
  shapeCast S8x128 (shapeCast S8x128x1
    (select (cmpi .slt (andi ids (lit 7)) (lit 0)) (addi (andi ids (lit 7)) (lit 8)) (andi ids (lit 7)))
    shapeCasts_S8x128_S8x128x1) shapeCasts_S8x128x1_S8x128

/-- The scores that group `g` has at the places of the ids. -/
def gathered (t : Fin 8) (ids : Int32) (g : Fin 8) : Val F :=
  dynamicGather 0 (rv (scorePieces L) (scoreRect g t).toLoadRect) (place ids)

/-- The scores of the chosen experts. -/
def picked (t : Fin 8) (ids : Int32) : Val F :=
  [1, 2, 3, 4, 5, 6, 7].foldl
    (fun v g => select (cmpi .eq (shrsi ids (lit 3)) (lit g)) (gathered L rv t ids (Fin.ofNat 8 g)) v) (gathered L rv t ids 0)

/-- The scores divided by their sum, times 2.5. -/
def weigh (v : Val F) : FVec F S1x8x128 .f32 :=
  shapeCast S1x8x128
    (mulf (divf v (broadcastTo S8x128 (shapeCast S1x128 (multiReduction .add [0] S128 v 0x00000000#32 reduces_S8x128_S128 (.inl rfl) rfl)
        shapeCasts_S128_S1x128) broadcasts_S1x128_S8x128)) (broadcast S8x128 (Scalar.ofBits .f32 0x40200000#32)))
    shapeCasts_S8x128_S1x8x128

/-- The store of token row `t`'s ids. -/
def idsPiece (t : Fin 8) : View.Piece (Elt F) S1x8x1024 .i32 :=
  ⟨outRect t, shapeCast S1x8x128 (rowIds L rc rs t) shapeCasts_S8x128_S1x8x128⟩

/-- The store of token row `t`'s weights. -/
def weightsPiece (t : Fin 8) : View.Piece (Elt F) S1x8x1024 .f32 :=
  ⟨outRect t, weigh (picked L rv t (rowIds L rc rs t))⟩

/-- The stores into the ids block, last first. -/
def idsPieces : List (View.Piece (Elt F) S1x8x1024 .i32) :=
  [idsPiece L rc rs 7, idsPiece L rc rs 6, idsPiece L rc rs 5, idsPiece L rc rs 4,
   idsPiece L rc rs 3, idsPiece L rc rs 2, idsPiece L rc rs 1, idsPiece L rc rs 0]

/-- The stores into the weights block, last first. -/
def weightsPieces : List (View.Piece (Elt F) S1x8x1024 .f32) :=
  [weightsPiece L rc rs rv 7, weightsPiece L rc rs rv 6, weightsPiece L rc rs rv 5, weightsPiece L rc rs rv 4,
   weightsPiece L rc rs rv 3, weightsPiece L rc rs rv 2, weightsPiece L rc rs rv 1, weightsPiece L rc rs rv 0]

/-! ## What the loads read of the blocks

How a load reads a block is a parameter too. -/

/-- A reader of a buffer's contents. -/
abbrev Loader (F : FTy → Type) (s : Shape) (e : EltTy) := (B : LoadRect s) → B.shape.Idx → Elt F e

/-- Tile `q`, columns block `k` of the codes. -/
def xRect (q : Fin 4) (k : Fin 8) : Rect S1024x2048 :=
  Rect.unit ![256 * q.val, 256 * k.val] S256x256.size (by intro a; match a with
    | ⟨0, _⟩ => show 256 * q.val + 256 ≤ 1024; omega
    | ⟨1, _⟩ => show 256 * k.val + 256 ≤ 2048; omega)

/-- The scales of tile `q`, block `b`. -/
def xsRect (q : Fin 4) (b : Fin 16) : Rect S1x16x1024 :=
  Rect.unit ![0, b.val, 256 * q.val] S1x1x256.size (by intro a; match a with
    | ⟨0, _⟩ => show 0 + 1 ≤ 1; omega
    | ⟨1, _⟩ => show b.val + 1 ≤ 16; omega
    | ⟨2, _⟩ => show 256 * q.val + 256 ≤ 1024; omega)

/-- Block `k` of the expanded weights. -/
def wRect (k : Fin 8) : Rect S8x128x256 :=
  Rect.unit ![k.val, 0, 0] S1x128x256.size (by intro a; match a with
    | ⟨0, _⟩ => show k.val + 1 ≤ 8; omega
    | ⟨1, _⟩ => show 0 + 128 ≤ 128; omega
    | ⟨2, _⟩ => show 0 + 256 ≤ 256; omega)

/-- Columns block `k` of the weight codes. -/
def wtRect (k : Fin 8) : Rect S64x2048 :=
  Rect.unit ![0, 256 * k.val] S64x256.size (by intro a; match a with
    | ⟨0, _⟩ => show 0 + 64 ≤ 64; omega
    | ⟨1, _⟩ => show 256 * k.val + 256 ≤ 2048; omega)

/-- A whole column. -/
def colRect : Rect S64x1 := Rect.unit ![0, 0] S64x1.size (by decide)

/-- The loads of a step through readers of its blocks. -/
def loads (x : Loader F S1024x2048 .fp8e4m3) (xs : Loader F S1x16x1024 .f32) (w : Loader F S8x128x256 .bf16)
    (ws eb : Loader F S64x1 .f32) : Loads F where
  x q k := x (xRect (Fin.ofNat 4 q) (Fin.ofNat 8 k)).toLoadRect
  w k := w (wRect (Fin.ofNat 8 k)).toLoadRect
  xs q b := xs (xsRect (Fin.ofNat 4 q) (Fin.ofNat 16 b)).toLoadRect
  ws := ws colRect.toLoadRect
  eb := eb colRect.toLoadRect

/-! ## The expanded weights

Column block `k` of the weights, in two halves on the diagonal of a 128 × 256 block. -/

variable (wt : Loader F S64x2048 .fp8e4m3)

/-- Column block `k` of the weights. -/
def wide (k : Fin 8) : FVec F S64x256 .bf16 :=
  extf .bf16 (shapeCast S64x256 (wt (wtRect k).toLoadRect) shapeCasts_S64x256_S64x256) bitsLt_fp8e4m3_bf16

/-- Half of a zero block. -/
def zeroHalf : FVec F S1x64x128 .bf16 :=
  shapeCast S1x64x128 (broadcast S64x128 (Scalar.ofBits .bf16 0x0000#16)) shapeCasts_S64x128_S1x64x128

/-- The quarter of block `k` at row `r` and column `d`. -/
def quarter (k : Fin 8) (r d : Fin 2) : Rect S8x128x256 :=
  Rect.unit ![k.val, 64 * r.val, 128 * d.val] S1x64x128.size (by intro a; match a with
    | ⟨0, _⟩ => show k.val + 1 ≤ 8; omega
    | ⟨1, _⟩ => show 64 * r.val + 64 ≤ 128; omega
    | ⟨2, _⟩ => show 128 * d.val + 128 ≤ 256; omega)

/-- The four stores of block `k` before the stores `L`. -/
def wexpBlock (k : Fin 8) (L : List (View.Piece (Elt F) S8x128x256 .bf16)) : List (View.Piece (Elt F) S8x128x256 .bf16) :=
  ⟨quarter k 1 1, shapeCast S1x64x128 (extractStridedSlice S64x128 ![0, 128] (wide wt k) slices_S64x256_o0_128_S64x128) shapeCasts_S64x128_S1x64x128⟩
  :: ⟨quarter k 1 0, zeroHalf⟩ :: ⟨quarter k 0 1, zeroHalf⟩
  :: ⟨quarter k 0 0, shapeCast S1x64x128 (extractStridedSlice S64x128 ![0, 0] (wide wt k) slices_S64x256_o0_0_S64x128) shapeCasts_S64x128_S1x64x128⟩
  :: L

/-- The stores of the expanded weights, last first. -/
def wexpPieces : List (View.Piece (Elt F) S8x128x256 .bf16) :=
  wexpBlock wt 7 <| wexpBlock wt 6 <| wexpBlock wt 5 <| wexpBlock wt 4 <| wexpBlock wt 3 <| wexpBlock wt 2 <|
    wexpBlock wt 1 <| wexpBlock wt 0 []

end Cert.Body

end
-- ==== Proof.BodyRun.lean ====
/- The stores that the run of the kernel body leaves, in its two cases (the first grid point, which fills the
   expanded weights, and the later ones, which find them there), are the body's functions. -/
module

public import proofs.«01_k».proof.Proof.Body
public import proofs.«01_k».proof.Proof.Gen.KernelIdeal.Frame.RunB

@[expose] public section

set_option maxRecDepth 16384

noncomputable section

namespace Cert.Body

open Idealize.ShloMosaic Idealize.ShloMosaic.TcCoe Idealize.SL.Sem Cert.KernelIdeal Cert.KernelIdeal.Gen
open Idealize.ShloMosaic.Tactic

variable {F : FTy → Type} [FloatOps F]

section
variable (c : Dev nD) (i : grid0.Coords) (arg1 : Memref sig .tc .vmem S1024x2048 .fp8e4m3) (harg1 : arg1.IsWhole)
  (arg2 : Memref sig .tc .vmem S1x16x1024 .f32) (harg2 : arg2.IsWhole) (arg3 : Memref sig .tc .vmem S64x2048 .fp8e4m3)
  (harg3 : arg3.IsWhole) (arg4 : Memref sig .tc .vmem S64x1 .f32) (harg4 : arg4.IsWhole)
  (arg5 : Memref sig .tc .vmem S64x1 .f32) (harg5 : arg5.IsWhole) (arg6 : Memref sig .tc .vmem S1x8x1024 .i32)
  (harg6 : arg6.IsWhole) (arg7 : Memref sig .tc .vmem S1x8x1024 .f32) (harg7 : arg7.IsWhole)
  (arg8 : Memref sig .tc .vmem S8x128x256 .bf16) (harg8 : arg8.IsWhole) (arg9 : Memref sig .tc .vmem S64x1024 .f32)
  (harg9 : arg9.IsWhole) (arg10 : Memref sig .tc .vmem S544x128 .f32) (harg10 : arg10.IsWhole)
  (arg11 : Memref sig .tc .vmem S72x128 .i32) (harg11 : arg11.IsWhole)
  (x0 : Vec F S1024x2048 .fp8e4m3) (x1 : Vec F S1x16x1024 .f32) (x2 : Vec F S64x2048 .fp8e4m3)
  (x3 : Vec F S64x1 .f32) (x4 : Vec F S64x1 .f32) (xs0 : Vec F S8x128x256 .bf16)

/-- How a load reads a whole buffer that holds `x`. -/
def loader {s : Shape} {e : EltTy} (arg : Memref sig .tc .vmem s e) (h : arg.IsWhole) (x : Vec F s e) : Loader F s e :=
  fun B => arg.view.readAt (Elt F) B (h.unread x)

/-- How a load reads a scratch buffer after stores. -/
def reader {s : Shape} {e : EltTy} (arg : Memref sig .tc .vmem s e) : Reader F s e := fun L B => arg.view.readCov L B

/-- The loads of the first grid point: the expanded weights are those that it has just stored. -/
def loadsA : Loads F :=
  loads (loader arg1 harg1 x0) (loader arg2 harg2 x1) (reader arg8 (wexpPieces (loader arg3 harg3 x2)))
    (loader arg4 harg4 x3) (loader arg5 harg5 x4)

/-- The loads of a later grid point: the expanded weights are those found. -/
def loadsB : Loads F :=
  loads (loader arg1 harg1 x0) (loader arg2 harg2 x1) (loader arg8 harg8 xs0)
    (loader arg4 harg4 x3) (loader arg5 harg5 x4)

theorem runA_ids (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4).1 = idsPieces (loadsA arg1 harg1 arg2 harg2 arg3 harg3 arg4 harg4 arg5 harg5 arg8 x0 x1 x2 x3 x4) (reader arg10) (reader arg11) := by
  sl_kernel_rfl

theorem runA_weights (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4).2.1
      = weightsPieces (loadsA arg1 harg1 arg2 harg2 arg3 harg3 arg4 harg4 arg5 harg5 arg8 x0 x1 x2 x3 x4) (reader arg10) (reader arg11) (reader arg9) := by
  sl_kernel_rfl

theorem runA_wexp (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4).2.2.1 = wexpPieces (loader arg3 harg3 x2) := by
  sl_kernel_rfl

theorem runB_ids (hc0 : ¬cond0_0 i) :
    (kernelRun0_B c i arg1 harg1 arg2 harg2 arg3 harg3 arg4 harg4 arg5 harg5 arg6 harg6 arg7 harg7 arg8 harg8 arg9 harg9 arg10 harg10 arg11 harg11 hc0 x0 x1 x2 x3 x4 xs0).1 = idsPieces (loadsB arg1 harg1 arg2 harg2 arg4 harg4 arg5 harg5 arg8 harg8 x0 x1 x3 x4 xs0) (reader arg10) (reader arg11) := by
  sl_kernel_rfl

theorem runB_weights (hc0 : ¬cond0_0 i) :
    (kernelRun0_B c i arg1 harg1 arg2 harg2 arg3 harg3 arg4 harg4 arg5 harg5 arg6 harg6 arg7 harg7 arg8 harg8 arg9 harg9 arg10 harg10 arg11 harg11 hc0 x0 x1 x2 x3 x4 xs0).2.1
      = weightsPieces (loadsB arg1 harg1 arg2 harg2 arg4 harg4 arg5 harg5 arg8 harg8 x0 x1 x3 x4 xs0) (reader arg10) (reader arg11) (reader arg9) := by
  sl_kernel_rfl

end

end Cert.Body

end
-- ==== Proof.Tile.lean ====
/- The scores of a tile of 256 tokens at one expert and one token. -/
module

public import proofs.«01_k».proof.Proof.Body
public import Idealize.ShloMosaic.Lib.Pipeline.ValueKit
public import Idealize.ShloMosaic.Lib.Pointwise

@[expose] public section

set_option maxRecDepth 16384

noncomputable section

namespace Cert.Body

open Idealize.ShloMosaic Idealize.SL.Sem Cert.KernelIdeal Cert.KernelIdeal.Gen

variable (L : Loads Ideal)

theorem part_at (q k : ℕ) (e : Fin 128) (n : Fin 256) :
    (part L q k (ix2 e n) : EReal) = ∑ c : Fin 256, (show EReal from L.w k (ix3 0 e c)) * (show EReal from L.x q k (ix2 n c)) := by
  pointwise [part]

theorem scale_at (q b : ℕ) (e : Fin 64) (n : Fin 256) :
    (scale L q b (ix2 e n) : EReal) = L.xs q b (ix3 0 0 n) := by
  pointwise [scale]

theorem low_at (q k : ℕ) (e : Fin 64) (n : Fin 256) :
    (lowTerm L q k (ix2 e n) : EReal) = (show EReal from part L q k (ix2 ⟨e.val, by omega⟩ n)) * (show EReal from scale L q (2 * k) (ix2 e n)) := by
  pointwise [lowTerm]

theorem high_at (q k : ℕ) (e : Fin 64) (n : Fin 256) :
    (highTerm L q k (ix2 e n) : EReal) = (show EReal from part L q k (ix2 ⟨64 + e.val, by omega⟩ n)) * (show EReal from scale L q (2 * k + 1) (ix2 e n)) := by
  pointwise [highTerm]

theorem scores_at (q : ℕ) (e : Fin 64) (n : Fin 256) :
    (scores L q (ix2 e n) : EReal) = Ideal.logistic ((show EReal from logits L q 7 (ix2 e n)) * (show EReal from L.ws (ix2 e 0))) := by
  pointwise [scores]

theorem choices_at (q : ℕ) (e : Fin 64) (n : Fin 256) :
    (choices L q (ix2 e n) : EReal) = (show EReal from scores L q (ix2 e n)) + (show EReal from L.eb (ix2 e 0)) := by
  pointwise [choices]

theorem lowHalf_at (q : ℕ) (e : Fin 64) (l : Fin 128) :
    lowHalf L q (ix2 e l) = choices L q (ix2 e ⟨l.val, by omega⟩) := by
  pointwise [lowHalf]

theorem highHalf_at (q : ℕ) (e : Fin 64) (l : Fin 128) :
    highHalf L q (ix2 e l) = choices L q (ix2 e ⟨128 + l.val, by omega⟩) := by
  pointwise [highHalf]

theorem weigh_at (v : Val Ideal) (k : Fin 8) (l : Fin 128) :
    (weigh v (ix3 0 k l) : EReal) = Ideal.div (v (ix2 k l)) (∑ i : Fin 8, (show EReal from v (ix2 i l))) * Ideal.ofBits .f32 0x40200000#32 := by
  pointwise [weigh]

theorem place_at (ids : Int32) (k : Fin 8) (l : Fin 128) (n : ℕ) (hn : n < 64) (h : ids (ix2 k l) = BitVec.ofNat 32 n) :
    place ids (ix2 k l) = BitVec.ofNat 32 (n % 8) := by
  pointwise [place, h]
  have : ∀ n : Fin 64, Scalar.select (IntOp.cmpi CmpIPredicate.slt (IntOp.andi (BitVec.ofNat 32 n.val) 7#32) 0#32)
      (IntOp.addi (IntOp.andi (BitVec.ofNat 32 n.val) 7#32) 8#32) (IntOp.andi (BitVec.ofNat 32 n.val) 7#32)
        = BitVec.ofNat 32 (n.val % 8) := by decide +kernel
  exact this ⟨n, hn⟩

theorem gathered_at (rv : Reader Ideal S64x1024 .f32) (t : Fin 8) (ids : Int32) (g : Fin 8) (k : Fin 8) (l : Fin 128)
    (n : ℕ) (hn : n < 64) (h : ids (ix2 k l) = BitVec.ofNat 32 n) :
    gathered L rv t ids g (ix2 k l) = rv (scorePieces L) (scoreRect g t).toLoadRect (ix2 (⟨n % 8, Nat.mod_lt _ (by decide)⟩ : Fin 8) l) := by
  pointwise [gathered, place_at ids k l n hn h]
  congr 2
  refine Fin.ext ?_
  show (BitVec.ofNat 32 (n % 8)).toNat % 8 = n % 8
  rw [BitVec.toNat_ofNat]
  omega

end Cert.Body

end
-- ==== Proof.Reads.lean ====
/- What the scratch buffers hold after a step's stores, and what the step reads of them: the choice scores by
   token row, the scores by tile, the chosen experts by slot. -/
module

public import proofs.«01_k».proof.Proof.Tile

@[expose] public section

set_option maxRecDepth 16384

noncomputable section

namespace Cert.Body

open Idealize.ShloMosaic Idealize.SL.Sem Cert.KernelIdeal Cert.KernelIdeal.Gen

/-- The contents that stores leave, read through a box. -/
def readBack {s : Shape} {e : EltTy} : Reader Ideal s e := fun L B j => View.canon (Val := Elt Ideal) L (B.idx j)

variable (L : Loads Ideal)

theorem choices_congr {q q' : ℕ} {e e' : Fin 64} {n n' : Fin 256} (hq : q = q') (he : e.val = e'.val) (hn : n.val = n'.val) :
    choices L q (ix2 e n) = choices L q' (ix2 e' n') := by
  obtain rfl := hq; obtain rfl := Fin.ext he; obtain rfl := Fin.ext hn; rfl

theorem scores_congr {q q' : ℕ} {e e' : Fin 64} {n n' : Fin 256} (hq : q = q') (he : e.val = e'.val) (hn : n.val = n'.val) :
    scores L q (ix2 e n) = scores L q' (ix2 e' n') := by
  obtain rfl := hq; obtain rfl := Fin.ext he; obtain rfl := Fin.ext hn; rfl

/-! ## The choice scratch -/

/-- The choice scratch's contents. -/
def choiceBuf (y : S544x128.Idx) : Elt Ideal .f32 :=
  choices L ((y 0).val / 136) (ix2 (⟨(y 0).val % 68 % 64, Nat.mod_lt _ (by decide)⟩ : Fin 64)
    (⟨(128 * ((y 0).val / 68 % 2) + (y 1).val) % 256, Nat.mod_lt _ (by decide)⟩ : Fin 256))

theorem low_piece (q o : ℕ) (h : o = 136 * q) (inb) (x : (Rect.unit (s := S544x128) ![o, 0] S64x128.size inb).shape.Idx) :
    lowHalf L q x = choiceBuf L ((Rect.unit (s := S544x128) ![o, 0] S64x128.size inb).emb x) := by
  have h0 : (x 0).val < 64 := (x 0).isLt
  have h1 : (x 1).val < 128 := (x 1).isLt
  have e0 : ((Rect.unit (s := S544x128) ![o, 0] S64x128.size inb).emb x 0).val = o + 1 * (x 0).val := rfl
  have e1 : ((Rect.unit (s := S544x128) ![o, 0] S64x128.size inb).emb x 1).val = 0 + 1 * (x 1).val := rfl
  rw [show lowHalf L q x = lowHalf L q (ix2 (⟨(x 0).val, h0⟩ : Fin 64) (⟨(x 1).val, h1⟩ : Fin 128)) from congrArg _ (eq_ix2 x),
    lowHalf_at]
  unfold choiceBuf
  refine choices_congr L ?_ ?_ ?_ <;> simp only [e0, e1] <;> omega

theorem high_piece (q o : ℕ) (h : o = 136 * q + 68) (inb) (x : (Rect.unit (s := S544x128) ![o, 0] S64x128.size inb).shape.Idx) :
    highHalf L q x = choiceBuf L ((Rect.unit (s := S544x128) ![o, 0] S64x128.size inb).emb x) := by
  have h0 : (x 0).val < 64 := (x 0).isLt
  have h1 : (x 1).val < 128 := (x 1).isLt
  have e0 : ((Rect.unit (s := S544x128) ![o, 0] S64x128.size inb).emb x 0).val = o + 1 * (x 0).val := rfl
  have e1 : ((Rect.unit (s := S544x128) ![o, 0] S64x128.size inb).emb x 1).val = 0 + 1 * (x 1).val := rfl
  rw [show highHalf L q x = highHalf L q (ix2 (⟨(x 0).val, h0⟩ : Fin 64) (⟨(x 1).val, h1⟩ : Fin 128)) from congrArg _ (eq_ix2 x),
    highHalf_at]
  unfold choiceBuf
  refine choices_congr L ?_ ?_ ?_ <;> simp only [e0, e1] <;> omega

theorem canon_choice (r : Fin 8) (e : Fin 64) (l : Fin 128) (y : S544x128.Idx) (h0 : (y 0).val = 68 * r.val + e.val)
    (h1 : (y 1).val = l.val) :
    View.canon (Val := Elt Ideal) (choicePieces L) y
      = choices L (r.val / 2) (ix2 e (⟨128 * (r.val % 2) + l.val, by omega⟩ : Fin 256)) := by
  refine (View.canon_apply_of_pieces (Val := Elt Ideal) (choiceBuf L) (choicePieces L) ?_ y ?_).trans ?_
  · intro p hp x
    simp only [choicePieces, List.mem_cons, List.not_mem_nil, or_false] at hp
    rcases hp with rfl | rfl | rfl | rfl | rfl | rfl | rfl | rfl
    · exact high_piece L 3 476 rfl (by decide) x
    · exact low_piece L 3 408 rfl (by decide) x
    · exact high_piece L 2 340 rfl (by decide) x
    · exact low_piece L 2 272 rfl (by decide) x
    · exact high_piece L 1 204 rfl (by decide) x
    · exact low_piece L 1 136 rfl (by decide) x
    · exact high_piece L 0 68 rfl (by decide) x
    · exact low_piece L 0 0 rfl (by decide) x
  · have hm : ∀ (o : ℕ) (inb), o = 68 * r.val → y ∈ (Rect.unit (s := S544x128) ![o, 0] S64x128.size inb).set := by
      intro o inb ho
      rw [Rect.mem_set_unit]
      intro a
      match a with
      | ⟨0, _⟩ => show o ≤ (y 0).val ∧ (y 0).val < o + 64; omega
      | ⟨1, _⟩ => show 0 ≤ (y 1).val ∧ (y 1).val < 0 + 128; omega
    have : r.val = 0 ∨ r.val = 1 ∨ r.val = 2 ∨ r.val = 3 ∨ r.val = 4 ∨ r.val = 5 ∨ r.val = 6 ∨ r.val = 7 := by omega
    rcases this with h | h | h | h | h | h | h | h
    · exact ⟨_, List.mem_of_getElem? (i := 7) rfl, hm 0 (by decide) (by omega)⟩
    · exact ⟨_, List.mem_of_getElem? (i := 6) rfl, hm 68 (by decide) (by omega)⟩
    · exact ⟨_, List.mem_of_getElem? (i := 5) rfl, hm 136 (by decide) (by omega)⟩
    · exact ⟨_, List.mem_of_getElem? (i := 4) rfl, hm 204 (by decide) (by omega)⟩
    · exact ⟨_, List.mem_of_getElem? (i := 3) rfl, hm 272 (by decide) (by omega)⟩
    · exact ⟨_, List.mem_of_getElem? (i := 2) rfl, hm 340 (by decide) (by omega)⟩
    · exact ⟨_, List.mem_of_getElem? (i := 1) rfl, hm 408 (by decide) (by omega)⟩
    · exact ⟨_, List.mem_of_getElem? (i := 0) rfl, hm 476 (by decide) (by omega)⟩
  · unfold choiceBuf
    refine choices_congr L ?_ ?_ ?_ <;> simp only [h0, h1] <;> omega

/-- The choice values that the routing reads. -/
theorem choiceAt_at (e : Fin 64) (r : Fin 8) (l : Fin 128) :
    choiceAt L readBack e.val (ix2 r l) = choices L (r.val / 2) (ix2 e (⟨128 * (r.val % 2) + l.val, by omega⟩ : Fin 256)) := by
  have he : (Fin.ofNat 64 e.val) = e := Fin.ext (Nat.mod_eq_of_lt e.isLt)
  refine canon_choice L r e l _ ?_ ?_
  · show (Fin.ofNat 64 e.val).val + 68 * r.val = _
    rw [he]; omega
  · show 0 + 1 * l.val = l.val
    omega

/-! ## The score scratch -/

/-- The score scratch's contents. -/
def scoreBuf (y : S64x1024.Idx) : Elt Ideal .f32 :=
  scores L ((y 1).val / 256) (ix2 (⟨(y 0).val, (y 0).isLt⟩ : Fin 64) (⟨(y 1).val % 256, Nat.mod_lt _ (by decide)⟩ : Fin 256))

theorem score_piece (q o : ℕ) (h : o = 256 * q) (inb) (x : (Rect.unit (s := S64x1024) ![0, o] S64x256.size inb).shape.Idx) :
    shapeCast S64x256 (scores L q) shapeCasts_S64x256_S64x256 x
      = scoreBuf L ((Rect.unit (s := S64x1024) ![0, o] S64x256.size inb).emb x) := by
  have h0 : (x 0).val < 64 := (x 0).isLt
  have h1 : (x 1).val < 256 := (x 1).isLt
  have e0 : ((Rect.unit (s := S64x1024) ![0, o] S64x256.size inb).emb x 0).val = 0 + 1 * (x 0).val := rfl
  have e1 : ((Rect.unit (s := S64x1024) ![0, o] S64x256.size inb).emb x 1).val = o + 1 * (x 1).val := rfl
  rw [shapeCast_id]
  rw [show scores L q x = scores L q (ix2 (⟨(x 0).val, h0⟩ : Fin 64) (⟨(x 1).val, h1⟩ : Fin 256)) from congrArg _ (eq_ix2 x)]
  unfold scoreBuf
  refine scores_congr L ?_ ?_ ?_ <;> simp only [e0, e1] <;> omega

theorem canon_score (y : S64x1024.Idx) : View.canon (Val := Elt Ideal) (scorePieces L) y = scoreBuf L y := by
  refine View.canon_apply_of_pieces (Val := Elt Ideal) (scoreBuf L) (scorePieces L) ?_ y ?_
  · intro p hp x
    simp only [scorePieces, List.mem_cons, List.not_mem_nil, or_false] at hp
    rcases hp with rfl | rfl | rfl | rfl
    · exact score_piece L 3 768 rfl (by decide) x
    · exact score_piece L 2 512 rfl (by decide) x
    · exact score_piece L 1 256 rfl (by decide) x
    · exact score_piece L 0 0 rfl (by decide) x
  · have h0 : (y 0).val < 64 := (y 0).isLt
    have h1 : (y 1).val < 1024 := (y 1).isLt
    have hm : ∀ (o : ℕ) (inb), o ≤ (y 1).val → (y 1).val < o + 256 → y ∈ (Rect.unit (s := S64x1024) ![0, o] S64x256.size inb).set := by
      intro o inb ho ho'
      rw [Rect.mem_set_unit]
      intro a
      match a with
      | ⟨0, _⟩ => show 0 ≤ (y 0).val ∧ (y 0).val < 0 + 64; omega
      | ⟨1, _⟩ => exact ⟨ho, ho'⟩
    have : (y 1).val / 256 = 0 ∨ (y 1).val / 256 = 1 ∨ (y 1).val / 256 = 2 ∨ (y 1).val / 256 = 3 := by omega
    rcases this with h | h | h | h
    · exact ⟨_, List.mem_of_getElem? (i := 3) rfl, hm 0 (by decide) (by omega) (by omega)⟩
    · exact ⟨_, List.mem_of_getElem? (i := 2) rfl, hm 256 (by decide) (by omega) (by omega)⟩
    · exact ⟨_, List.mem_of_getElem? (i := 1) rfl, hm 512 (by decide) (by omega) (by omega)⟩
    · exact ⟨_, List.mem_of_getElem? (i := 0) rfl, hm 768 (by decide) (by omega) (by omega)⟩

/-- The scores of expert `8 g + i` read at token row `r`. -/
theorem scoreRect_at (g r : Fin 8) (i : Fin 8) (l : Fin 128) :
    readBack (scorePieces L) (scoreRect g r).toLoadRect (ix2 i l)
      = scores L (r.val / 2) (ix2 (⟨8 * g.val + i.val, by omega⟩ : Fin 64) (⟨128 * (r.val % 2) + l.val, by omega⟩ : Fin 256)) := by
  refine (canon_score L _).trans ?_
  have e0 : (((scoreRect g r).toLoadRect).idx (ix2 i l) 0).val = 8 * g.val + 1 * i.val := rfl
  have e1 : (((scoreRect g r).toLoadRect).idx (ix2 i l) 1).val = 128 * r.val + 1 * l.val := rfl
  unfold scoreBuf
  refine scores_congr L ?_ ?_ ?_ <;> simp only [e0, e1] <;> omega

/-! ## The slots -/

variable (rc : Reader Ideal S544x128 .f32)

/-- The slot pieces as a family. -/
theorem slotPieces_eq : slotPieces L rc = List.ofFn fun k : Fin 8 => slotPiece L rc k.rev := rfl

/-- The chosen experts read at token row `r`. -/
theorem rowIds_at (r : Fin 8) (k : Fin 8) (l : Fin 128) :
    rowIds L rc readBack r (ix2 k l) = (chosen (choiceAt L rc) k.val).2 (ix2 r l) := by
  have hd : ∀ k k' : Fin 8, k ≠ k' → Disjoint (slotRect k.rev).set (slotRect k'.rev).set := by
    intro k k' hkk
    rw [Finset.disjoint_left]
    intro y h1 h2
    obtain ⟨x, rfl⟩ := (slotRect k.rev).exists_idx_of_mem h1
    obtain ⟨x', hx'⟩ := (slotRect k'.rev).exists_idx_of_mem h2
    have h : ((slotRect k'.rev).idx x' 0).val = ((slotRect k.rev).idx x 0).val := by rw [hx']
    have h' : k'.rev.val + 9 * (x' 0).val = k.rev.val + 9 * (x 0).val := h
    have a1 := k.rev.isLt
    have a2 := k'.rev.isLt
    have : k.rev = k'.rev := Fin.ext (by omega)
    exact hkk (Fin.rev_injective this)
  have h := View.canon_ofFn_emb_of_disjoint (Val := Elt Ideal) (fun k : Fin 8 => slotRect k.rev)
    (fun k : Fin 8 => (slotPiece L rc k.rev).2) hd k.rev (ix2 r l)
  have hidx : ((slotRow r).toLoadRect).idx (ix2 k l) = (slotRect k.rev.rev).emb (ix2 r l) := by
    funext a
    refine Fin.ext ?_
    match a with
    | ⟨0, _⟩ =>
      show 9 * r.val + 1 * k.val = k.rev.rev.val + 9 * r.val
      rw [Fin.rev_rev]; omega
    | ⟨1, _⟩ => rfl
  unfold rowIds readBack
  rw [slotPieces_eq, hidx]
  refine h.trans ?_
  show shapeCast S8x128 (chosen (choiceAt L rc) k.rev.rev.val).2 shapeCasts_S8x128_S8x128 (ix2 r l) = _
  rw [shapeCast_id, Fin.rev_rev]

/-! ## The result blocks -/

theorem outRect_disjoint : ∀ t t' : Fin 8, t ≠ t' → Disjoint (outRect t.rev).set (outRect t'.rev).set := by
  intro k k' hkk
  rw [Finset.disjoint_left]
  intro y h1 h2
  obtain ⟨x, rfl⟩ := (outRect k.rev).exists_idx_of_mem h1
  obtain ⟨x', hx'⟩ := (outRect k'.rev).exists_idx_of_mem h2
  have h : ((outRect k'.rev).idx x' 2).val = ((outRect k.rev).idx x 2).val := by rw [hx']
  have h' : 128 * k'.rev.val + 1 * (x' 2).val = 128 * k.rev.val + 1 * (x 2).val := h
  have a1 : (x 2).val < 128 := (x 2).isLt
  have a2 : (x' 2).val < 128 := (x' 2).isLt
  have : k.rev = k'.rev := Fin.ext (by omega)
  exact hkk (Fin.rev_injective this)

theorem outRect_emb (r : Fin 8) (k : Fin 8) (l : Fin 128) (y : S1x8x1024.Idx) (h1 : (y 1).val = k.val)
    (h2 : (y 2).val = 128 * r.val + l.val) : y = (outRect r.rev.rev).emb (ix3 0 k l) := by
  funext a
  refine Fin.ext ?_
  match a with
  | ⟨0, _⟩ =>
    have : (y 0).val < 1 := (y 0).isLt
    show (y 0).val = 0 + 1 * 0
    omega
  | ⟨1, _⟩ => show (y 1).val = 0 + 1 * k.val; omega
  | ⟨2, _⟩ => show (y 2).val = 128 * r.rev.rev.val + 1 * l.val; rw [Fin.rev_rev]; omega

variable (rs : Reader Ideal S72x128 .i32) (rv : Reader Ideal S64x1024 .f32)

theorem idsPieces_at (r : Fin 8) (k : Fin 8) (l : Fin 128) (y : S1x8x1024.Idx) (h1 : (y 1).val = k.val)
    (h2 : (y 2).val = 128 * r.val + l.val) :
    View.canon (Val := Elt Ideal) (idsPieces L rc rs) y = rowIds L rc rs r (ix2 k l) := by
  have h := View.canon_ofFn_emb_of_disjoint (Val := Elt Ideal) (fun k : Fin 8 => outRect k.rev)
    (fun k : Fin 8 => (idsPiece L rc rs k.rev).2) outRect_disjoint r.rev (ix3 0 k l)
  rw [outRect_emb r k l y h1 h2]
  refine Eq.trans (show View.canon (Val := Elt Ideal) (idsPieces L rc rs) _ = _ from h) ?_
  show shapeCast S1x8x128 (rowIds L rc rs r.rev.rev) shapeCasts_S8x128_S1x8x128 (ix3 0 k l) = _
  rw [Fin.rev_rev]
  pointwise []

theorem weightsPieces_at (r : Fin 8) (k : Fin 8) (l : Fin 128) (y : S1x8x1024.Idx) (h1 : (y 1).val = k.val)
    (h2 : (y 2).val = 128 * r.val + l.val) :
    View.canon (Val := Elt Ideal) (weightsPieces L rc rs rv) y = weigh (picked L rv r (rowIds L rc rs r)) (ix3 0 k l) := by
  have h := View.canon_ofFn_emb_of_disjoint (Val := Elt Ideal) (fun k : Fin 8 => outRect k.rev)
    (fun k : Fin 8 => (weightsPiece L rc rs rv k.rev).2) outRect_disjoint r.rev (ix3 0 k l)
  rw [outRect_emb r k l y h1 h2]
  refine Eq.trans (show View.canon (Val := Elt Ideal) (weightsPieces L rc rs rv) _ = _ from h) ?_
  show weigh (picked L rv r.rev.rev (rowIds L rc rs r.rev.rev)) (ix3 0 k l) = _
  rw [Fin.rev_rev]

end Cert.Body

end
-- ==== Proof.Keys.lean ====
/- Entries with their numbers, ordered: an entry is above another if its value is larger, or equal and its
   number smaller. The library's sorting networks and its lists of greatest entries apply to this order. -/
module

public import Mathlib.Data.EReal.Basic
public import Mathlib.Data.Prod.Lex
public import Idealize.ShloMosaic.Lib.SortNet.Fold
public import Idealize.ShloMosaic.Lib.SortNet.Positions

@[expose] public section

noncomputable section

namespace Cert.Keys

open Idealize.ShloMosaic Idealize.ShloMosaic.SortNet

/-- Values, then numbers in reverse. -/
abbrev Key := EReal ×ₗ ℤᵒᵈ

/-- The value `v` with the number `n`. -/
def key (v : EReal) (n : ℤ) : Key := toLex (v, OrderDual.toDual n)

/-- A key's value and its number. -/
def val (a : Key) : EReal := (ofLex a).1
def num (a : Key) : ℤ := OrderDual.ofDual (ofLex a).2

@[simp] theorem val_key (v : EReal) (n : ℤ) : val (key v n) = v := rfl
@[simp] theorem num_key (v : EReal) (n : ℤ) : num (key v n) = n := rfl

theorem lt_iff (a b : Key) : a < b ↔ val a < val b ∨ val a = val b ∧ num b < num a := Prod.Lex.lt_iff

theorem key_lt {v w : EReal} {n m : ℤ} : key v n < key w m ↔ v < w ∨ v = w ∧ m < n := lt_iff _ _

theorem ext {a b : Key} (h : val a = val b) (h' : num a = num b) : a = b := by
  have : ofLex a = ofLex b := Prod.ext h (congrArg OrderDual.toDual h')
  exact this

theorem val_mono : Monotone val := fun a b h => by
  rcases h.lt_or_eq with h | h
  · rcases (lt_iff a b).1 h with h | h
    · exact h.le
    · exact h.1.le
  · rw [h]

theorem val_max (a b : Key) : val (max a b) = max (val a) (val b) := val_mono.map_max
theorem val_min (a b : Key) : val (min a b) = min (val a) (val b) := val_mono.map_min

/-! ## Sorting by neighbours -/

/-- Entries of equal value stand in the order of their numbers. -/
def Stable (e : Fin 8 → Key) : Prop := ∀ p q : Fin 8, p < q → val (e p) = val (e q) → num (e p) < num (e q)

/-- The exchange of places `i < 7` and `i + 1`, the larger entry first. -/
def neighbours (i : Fin 7) : Cmpx 8 := ⟨i.succ, i.castSucc, by simp [Fin.ext_iff]⟩

theorem swap_lt : ∀ (i : Fin 7) (p q : Fin 8), p < q → ¬(p = i.castSucc ∧ q = i.succ) →
    Equiv.swap i.castSucc i.succ p < Equiv.swap i.castSucc i.succ q := by decide +kernel

theorem neighbours_apply (i : Fin 7) (e : Fin 8 → Key) :
    (neighbours i).apply e = if e i.castSucc < e i.succ then e ∘ Equiv.swap i.castSucc i.succ else e := by
  funext k
  have hne : i.castSucc ≠ i.succ := by simp [Fin.ext_iff]
  split
  · rename_i h
    by_cases h1 : k = i.succ
    · subst h1; rw [show i.succ = (neighbours i).lo from rfl, Cmpx.apply_lo]
      show min (e i.succ) (e i.castSucc) = e (Equiv.swap i.castSucc i.succ i.succ)
      rw [Equiv.swap_apply_right, min_eq_right h.le]
    · by_cases h2 : k = i.castSucc
      · subst h2; rw [show i.castSucc = (neighbours i).hi from rfl, Cmpx.apply_hi]
        show max (e i.succ) (e i.castSucc) = e (Equiv.swap i.castSucc i.succ i.castSucc)
        rw [Equiv.swap_apply_left, max_eq_left h.le]
      · rw [Cmpx.apply_other _ _ _ h1 h2, Function.comp_apply, Equiv.swap_apply_of_ne_of_ne h2 h1]
  · rename_i h
    have h := not_lt.1 h
    by_cases h1 : k = i.succ
    · subst h1; rw [show i.succ = (neighbours i).lo from rfl, Cmpx.apply_lo]
      exact min_eq_left h
    · by_cases h2 : k = i.castSucc
      · subst h2; rw [show i.castSucc = (neighbours i).hi from rfl, Cmpx.apply_hi]
        exact max_eq_right h
      · rw [Cmpx.apply_other _ _ _ h1 h2]

/-- An exchange of neighbours keeps the order of equal entries. -/
theorem Stable.neighbours {e : Fin 8 → Key} (h : Stable e) (i : Fin 7) : Stable ((neighbours i).apply e) := by
  rw [neighbours_apply]
  split
  · rename_i hlt
    intro p q hpq hv
    by_cases hc : p = i.castSucc ∧ q = i.succ
    · obtain ⟨rfl, rfl⟩ := hc
      simp only [Function.comp_apply, Equiv.swap_apply_left, Equiv.swap_apply_right] at hv ⊢
      rcases (lt_iff _ _).1 hlt with hh | hh
      · exact absurd hv hh.ne'
      · exact hh.2
    · exact h _ _ (swap_lt i p q hpq hc) hv
  · exact h

/-- Among stable neighbours, the second is above only by its value. -/
theorem Stable.lt_iff {e : Fin 8 → Key} (h : Stable e) (i : Fin 7) :
    e i.castSucc < e i.succ ↔ val (e i.castSucc) < val (e i.succ) := by
  rw [Keys.lt_iff]
  have := h i.castSucc i.succ (by simp [Fin.lt_def])
  constructor
  · rintro (h | ⟨h1, h2⟩)
    · exact h
    · exact absurd h2 (not_lt.2 (this h1).le)
  · exact Or.inl

/-- The network of seven rounds of neighbours. -/
def sortNet : Network 8 :=
  [0, 2, 4, 6, 1, 3, 5, 0, 2, 4, 6, 1, 3, 5, 0, 2, 4, 6, 1, 3, 5, 0, 2, 4, 6, 1, 3, 5].map neighbours

theorem sortNet_bool : ∀ n : Fin 256, ∀ i : Fin 7,
    (Network.apply sortNet fun k : Fin 8 => n.val.testBit k.val) i.succ
      ≤ (Network.apply sortNet fun k : Fin 8 => n.val.testBit k.val) i.castSucc := by
  decide +kernel

/-- The number whose bits are given. -/
theorem exists_bits (b : Fin 8 → Bool) : ∃ n : Fin 256, b = fun k => n.val.testBit k.val := by
  have : ∀ b0 b1 b2 b3 b4 b5 b6 b7 : Bool, ∀ k : Fin 8,
      (![b0, b1, b2, b3, b4, b5, b6, b7] : Fin 8 → Bool) k = (Fin.ofNat 256 (b0.toNat + 2 * b1.toNat + 4 * b2.toNat
        + 8 * b3.toNat + 16 * b4.toNat + 32 * b5.toNat + 64 * b6.toNat + 128 * b7.toNat)).val.testBit k.val := by
    decide +kernel
  refine ⟨_, funext fun k => Eq.trans ?_ (this (b 0) (b 1) (b 2) (b 3) (b 4) (b 5) (b 6) (b 7) k)⟩
  fin_cases k <;> rfl

theorem sortNet_antitone (e : Fin 8 → Key) : Antitone (Network.apply sortNet e) := by
  refine Network.zero_one_on_antitone sortNet (fun _ => True) (fun b _ => ?_) e (fun _ => trivial)
  obtain ⟨n, rfl⟩ := exists_bits b
  exact Fin.antitone_iff_succ_le.2 (sortNet_bool n)

theorem ofFn_sortNet_perm (e : Fin 8 → Key) : (List.ofFn (Network.apply sortNet e)).Perm (List.ofFn e) := by
  obtain ⟨σ, hσ⟩ := Network.exists_perm sortNet e
  rw [hσ]
  exact Equiv.Perm.ofFn_comp_perm σ _

theorem ofFn_sortNet (e : Fin 8 → Key) : List.ofFn (Network.apply sortNet e) = topList 8 (List.ofFn e) := by
  rw [← topList_perm (ofFn_sortNet_perm e)]
  exact (topList_eq_self ((List.pairwise_ofFn).2 fun i j h => sortNet_antitone e h.le) (by simp)).symm

/-! ## Merging two sorted lists -/

/-- The exchanges of a merge. -/
def mergeNet : Network 8 :=
  [⟨4, 0, by decide⟩, ⟨5, 1, by decide⟩, ⟨6, 2, by decide⟩, ⟨7, 3, by decide⟩, ⟨2, 0, by decide⟩, ⟨3, 1, by decide⟩,
   ⟨6, 4, by decide⟩, ⟨7, 5, by decide⟩, ⟨1, 0, by decide⟩, ⟨3, 2, by decide⟩, ⟨5, 4, by decide⟩, ⟨7, 6, by decide⟩]

theorem mergeNet_eq : mergeNet = mergeDescNet 3 := rfl

/-- The larger entries of a sorted list and a reversed sorted list. -/
def larger (a b : Fin 8 → Key) : Fin 8 → Key := fun j => max (a j) (b j.rev)

theorem merge_eq (a b : Fin 8 → Key) (ha : Antitone a) (hb : Antitone b) :
    Antitone (Network.apply mergeNet (larger a b)) ∧
      List.ofFn (Network.apply mergeNet (larger a b)) = topList 8 (List.ofFn a ++ List.ofFn b) := by
  have hb' : Monotone fun j : Fin (2 ^ 3) => b (Fin.rev j) := fun i j h => hb (Fin.rev_le_rev.2 h)
  have h := foldStep 3 a (fun j => b j.rev) ha hb'
  rw [← mergeNet_eq] at h
  refine ⟨h.1, h.2.trans (topList_perm (List.Perm.append_left _ ?_))⟩
  exact Equiv.Perm.ofFn_comp_perm Fin.revPerm b

end Cert.Keys

end
-- ==== Proof.Lane.lean ====
/- The sorted lists and their merge at one token: the exchanges that the kernel makes on a pair of vectors
   (values and numbers) are, at every token, the exchanges of the library's networks on keys. -/
module

public import proofs.«01_k».proof.Proof.Body
public import Idealize.ShloMosaic.Lib.Pipeline.ValueKit
public import proofs.«01_k».proof.Proof.Keys

@[expose] public section

noncomputable section

namespace Cert.Body

open Idealize.ShloMosaic Idealize.ShloMosaic.SortNet Idealize.SL.Sem Cert.KernelIdeal Cert.KernelIdeal.Gen Cert.Keys

theorem ofBool_eq_one {b : Bool} : BitVec.ofBool b = 1#1 ↔ b = true := by cases b <;> decide

theorem ogt_iff (x y : Val Ideal) (t : S8x128.Idx) : cmpf .ogt x y t = 1#1 ↔ (y t : EReal) < x t :=
  ofBool_eq_one.trans decide_eq_true_iff

theorem oeq_iff (x y : Val Ideal) (t : S8x128.Idx) : cmpf .oeq x y t = 1#1 ↔ (x t : EReal) = y t :=
  ofBool_eq_one.trans decide_eq_true_iff

theorem oge_iff (x y : Val Ideal) (t : S8x128.Idx) : cmpf .oge x y t = 1#1 ↔ (y t : EReal) ≤ x t :=
  ofBool_eq_one.trans decide_eq_true_iff

theorem slt_iff (x y : Int32) (t : S8x128.Idx) : cmpi .slt x y t = 1#1 ↔ (x t).toInt < (y t).toInt :=
  ofBool_eq_one.trans BitVec.slt_iff_toInt_lt

theorem ori_iff (x y : Mask) (t : S8x128.Idx) : ori x y t = 1#1 ↔ x t = 1#1 ∨ y t = 1#1 := by
  show x t ||| y t = 1#1 ↔ _
  generalize x t = a; generalize y t = b; revert a b; decide

theorem andi_iff (x y : Mask) (t : S8x128.Idx) : andi x y t = 1#1 ↔ x t = 1#1 ∧ y t = 1#1 := by
  show x t &&& y t = 1#1 ↔ _
  generalize x t = a; generalize y t = b; revert a b; decide

/-- The keys of eight entries at a token. -/
def lane (e : Entries Ideal) (t : S8x128.Idx) : Fin 8 → Key := fun k => key ((e k).1 t) ((e k).2 t).toInt

/-- An exchange that is made where the second key is larger, and nowhere where it is smaller. -/
theorem lane_exchange (i j : Fin 8) (hij : j ≠ i) (swap : Entries Ideal → Mask) (e : Entries Ideal) (t : S8x128.Idx)
    (h1 : swap e t = 1#1 → lane e t i ≤ lane e t j) (h2 : lane e t i < lane e t j → swap e t = 1#1) :
    lane (exchange i j swap e) t = Cmpx.apply ⟨j, i, hij⟩ (lane e t) := by
  have hor : lane e t i ≤ lane e t j ∧ swap e t = 1#1 ∨ lane e t j ≤ lane e t i ∧ swap e t ≠ 1#1 := by
    by_cases h : swap e t = 1#1
    · exact Or.inl ⟨h1 h, h⟩
    · exact Or.inr ⟨not_lt.1 fun h' => h (h2 h'), h⟩
  funext k
  by_cases hk : k = i
  · subst hk
    refine Eq.trans ?_ (Cmpx.apply_hi ⟨j, k, hij⟩ (lane e t)).symm
    have hl : lane (exchange k j swap e) t k
        = key (max ((e k).1 t : EReal) ((e j).1 t)) (if swap e t = 1#1 then (e j).2 t else (e k).2 t).toInt := by
      unfold lane exchange
      rw [if_pos rfl]
      rfl
    rw [hl]
    show _ = max (lane e t j) (lane e t k)
    refine Keys.ext ?_ ?_
    · rw [val_max, max_comm]; rfl
    · rcases hor with ⟨h, hs⟩ | ⟨h, hs⟩
      · rw [max_eq_left h, if_pos hs]; rfl
      · rw [max_eq_right h, if_neg hs]; rfl
  · by_cases hk' : k = j
    · subst hk'
      refine Eq.trans ?_ (Cmpx.apply_lo ⟨k, i, hij⟩ (lane e t)).symm
      have hl : lane (exchange i k swap e) t k
          = key (min ((e i).1 t : EReal) ((e k).1 t)) (if swap e t = 1#1 then (e i).2 t else (e k).2 t).toInt := by
        unfold lane exchange
        rw [if_neg (fun h => hk (Fin.ext h)), if_pos rfl]
        rfl
      rw [hl]
      show _ = min (lane e t k) (lane e t i)
      refine Keys.ext ?_ ?_
      · rw [val_min, min_comm]; rfl
      · rcases hor with ⟨h, hs⟩ | ⟨h, hs⟩
        · rw [min_eq_right h, if_pos hs]; rfl
        · rw [min_eq_left h, if_neg hs]; rfl
    · refine Eq.trans ?_ (Cmpx.apply_other ⟨j, i, hij⟩ (lane e t) k hk' hk).symm
      unfold lane exchange
      rw [if_neg (fun h => hk (Fin.ext h)), if_neg (fun h => hk' (Fin.ext h))]

/-! ## Sorting -/

theorem lane_foldl_above (l : List (Fin 7)) (t : S8x128.Idx) : ∀ e : Entries Ideal, Stable (lane e t) →
    lane (l.foldl (fun e i => exchange i.val (i.val + 1) (above i.val (i.val + 1)) e) e) t
      = Network.apply (l.map neighbours) (lane e t) := by
  induction l with
  | nil => intro e _; rfl
  | cons i l ih =>
    intro e he
    have h : lane (exchange i.val (i.val + 1) (above i.val (i.val + 1)) e) t = (neighbours i).apply (lane e t) := by
      have hlt := he.lt_iff i
      have hab : above i.val (i.val + 1) e t = 1#1 ↔ lane e t i.castSucc < lane e t i.succ := by
        rw [hlt]; exact ogt_iff _ _ t
      exact lane_exchange i.castSucc i.succ (neighbours i).ne _ e t (fun h => (hab.1 h).le) hab.2
    rw [List.foldl_cons, ih _ (by rw [h]; exact he.neighbours i), h, List.map_cons, Network.apply_cons]

/-- Sorting entries whose equal values stand in the order of their numbers sorts their keys. -/
theorem lane_sorted (e : Entries Ideal) (t : S8x128.Idx) (he : Stable (lane e t)) :
    lane (sorted e) t = Network.apply sortNet (lane e t) := by
  have := lane_foldl_above [0, 2, 4, 6, 1, 3, 5, 0, 2, 4, 6, 1, 3, 5, 0, 2, 4, 6, 1, 3, 5, 0, 2, 4, 6, 1, 3, 5] t e he
  exact this

/-! ## Merging -/

theorem lane_foldl_aboveLex (l : List (Fin 8 × Fin 8)) (h : ∀ p ∈ l, p.2 ≠ p.1) (t : S8x128.Idx) : ∀ e : Entries Ideal,
    lane (l.foldl (fun e p => exchange p.1.val p.2.val (aboveLex p.1.val p.2.val) e) e) t
      = (l.attach.map fun p => (⟨p.1.2, p.1.1, h _ p.2⟩ : Cmpx 8)).foldl (fun v c => c.apply v) (lane e t) := by
  induction l with
  | nil => intro e; rfl
  | cons p l ih =>
    intro e
    have hp : p.2 ≠ p.1 := h p (List.mem_cons_self ..)
    have hab : aboveLex p.1.val p.2.val e t = 1#1 ↔ lane e t p.1 < lane e t p.2 := by
      unfold aboveLex
      rw [ori_iff, andi_iff, ogt_iff, oeq_iff, slt_iff, Keys.lt_iff, eq_comm]
      rfl
    rw [List.foldl_cons, ih (fun q hq => h q (List.mem_cons_of_mem _ hq)),
      lane_exchange p.1 p.2 hp _ e t (fun h => (hab.1 h).le) hab.2]
    simp [List.attach_cons, List.foldl_map]

section
variable (a b : Entries Ideal) (t : S8x128.Idx) (ha : Antitone (lane a t)) (hb : Antitone (lane b t))
  (hab : ∀ p q, num (lane a t p) < num (lane b t q))
include hab

theorem fromSecond_iff (k : Fin 8) : fromSecond a b k t = 1#1 ↔ lane a t k < lane b t k.rev := by
  unfold fromSecond
  rw [ogt_iff, Keys.lt_iff]
  have h7 : (7 - k.val) = (k.rev).val := by rw [Fin.val_rev]; omega
  rw [h7]
  constructor
  · exact Or.inl
  · rintro (h | ⟨_, h⟩)
    · exact h
    · exact absurd h (not_lt.2 (hab _ _).le)

theorem lane_mergeFirst : lane (mergeFirst a b) t = larger (lane a t) (lane b t) := by
  funext k
  have h7 : (7 - k.val) = (k.rev).val := by rw [Fin.val_rev]; omega
  have hf := fromSecond_iff a b t hab k
  have hl : lane (mergeFirst a b) t k = key (max ((a k).1 t : EReal) ((b (k.rev).val).1 t))
      (if fromSecond a b k t = 1#1 then (b (k.rev).val).2 t else (a k).2 t).toInt := by
    unfold lane mergeFirst
    rw [h7]
    rfl
  rw [hl]
  unfold larger
  refine Keys.ext ?_ ?_
  · rw [val_max]; rfl
  · by_cases h : lane a t k < lane b t k.rev
    · rw [max_eq_right h.le, if_pos (hf.2 h)]; rfl
    · rw [max_eq_left (not_lt.1 h), if_neg (fun h' => h (hf.1 h'))]; rfl

include ha hb

/-- The exchange of places `i` and `i + 4`, if these still are what the first layer left. -/
theorem lane_layer (i : Fin 4) (j k : Fin 8) (hj : j.val = i.val) (hk : k.val = i.val + 4) (hkj : k ≠ j) (e : Entries Ideal)
    (h1 : lane e t j = larger (lane a t) (lane b t) j) (h2 : lane e t k = larger (lane a t) (lane b t) k) :
    lane (exchange j.val k.val (fun e => ori (cmpf .ogt (e k.val).1 (e j.val).1) (fromSecond a b j.val)) e) t
      = Cmpx.apply ⟨k, j, hkj⟩ (lane e t) := by
  have hjk : j ≤ k := by rw [Fin.le_def]; omega
  have hrev : k.rev ≤ j.rev := Fin.rev_le_rev.2 hjk
  have hgt : cmpf .ogt (e k.val).1 (e j.val).1 t = 1#1 ↔ val (lane e t j) < val (lane e t k) := ogt_iff _ _ t
  have hf := fromSecond_iff a b t hab j
  refine lane_exchange j k hkj _ e t ?_ ?_
  · show ori _ _ t = 1#1 → _
    rw [ori_iff]
    rintro (h | h)
    · exact ((Keys.lt_iff _ _).2 (Or.inl (hgt.1 h))).le
    · rw [h1, h2]
      unfold larger
      rw [max_eq_right (hf.1 h).le]
      exact le_max_of_le_right (hb hrev)
  · intro h
    show ori _ _ t = 1#1
    rw [ori_iff]
    by_cases hs : lane a t j < lane b t j.rev
    · exact Or.inr (hf.2 hs)
    · refine Or.inl (hgt.2 ?_)
      rw [h1, h2] at h ⊢
      unfold larger at h ⊢
      rw [max_eq_left (not_lt.1 hs)] at h ⊢
      rcases lt_max_iff.1 h with h | h
      · exact absurd h (not_lt.2 (ha hjk))
      · rcases (Keys.lt_iff _ _).1 h with h' | h'
        · rw [val_max]; exact lt_max_of_lt_right h'
        · exact absurd h'.2 (not_lt.2 (hab _ _).le)

/-- Merging two sorted lists, the second with larger numbers, merges their keys. -/
theorem lane_merged : lane (merged a b) t = Network.apply mergeNet (larger (lane a t) (lane b t)) := by
  have h0 := lane_mergeFirst a b t hab
  have s1 := lane_layer a b t ha hb hab 0 0 4 rfl rfl (by decide) (mergeFirst a b) (by rw [h0]) (by rw [h0])
  have s2 := lane_layer a b t ha hb hab 1 1 5 rfl rfl (by decide) _
    (by rw [s1, Cmpx.apply_other _ _ _ (by decide) (by decide), h0])
    (by rw [s1, Cmpx.apply_other _ _ _ (by decide) (by decide), h0])
  have s3 := lane_layer a b t ha hb hab 2 2 6 rfl rfl (by decide) _
    (by rw [s2, Cmpx.apply_other _ _ _ (by decide) (by decide), s1, Cmpx.apply_other _ _ _ (by decide) (by decide), h0])
    (by rw [s2, Cmpx.apply_other _ _ _ (by decide) (by decide), s1, Cmpx.apply_other _ _ _ (by decide) (by decide), h0])
  have s4 := lane_layer a b t ha hb hab 3 3 7 rfl rfl (by decide) _
    (by rw [s3, Cmpx.apply_other _ _ _ (by decide) (by decide), s2, Cmpx.apply_other _ _ _ (by decide) (by decide), s1,
      Cmpx.apply_other _ _ _ (by decide) (by decide), h0])
    (by rw [s3, Cmpx.apply_other _ _ _ (by decide) (by decide), s2, Cmpx.apply_other _ _ _ (by decide) (by decide), s1,
      Cmpx.apply_other _ _ _ (by decide) (by decide), h0])
  rw [s3, s2, s1, h0] at s4
  have hl := lane_foldl_aboveLex [(0, 2), (1, 3), (4, 6), (5, 7), (0, 1), (2, 3), (4, 5), (6, 7)] (by decide) t
    ((List.range 4).foldl
      (fun e i => exchange i (i + 4) (fun e => ori (cmpf .ogt (e (i + 4)).1 (e i).1) (fromSecond a b i)) e)
      (mergeFirst a b))
  refine hl.trans ?_
  have s5 : lane ((List.range 4).foldl
      (fun e i => exchange i (i + 4) (fun e => ori (cmpf .ogt (e (i + 4)).1 (e i).1) (fromSecond a b i)) e)
      (mergeFirst a b)) t = _ := s4
  rw [s5]
  rfl

end

end Cert.Body

end
-- ==== Proof.Groups.lean ====
/- The routing of one token: groups ranked by the sum of their two largest values, four kept, and the eight
   largest entries of the kept groups. Leaving the other groups out and setting their values to −∞ choose the
   same eight. -/
module

public import proofs.«01_k».proof.Proof.Keys
public import Mathlib.Algebra.Order.BigOperators.Group.List
public import Mathlib.Data.EReal.Operations

@[expose] public section

noncomputable section

namespace Cert.Keys

open Idealize.ShloMosaic Idealize.ShloMosaic.SortNet

/-! ## Lists of greatest entries -/

section
variable {α β : Type*} [LinearOrder α] [LinearOrder β]

theorem map_topList (f : α → β) (hf : Monotone f) (k : ℕ) (l : List α) : (topList k l).map f = topList k (l.map f) := by
  unfold topList
  rw [List.map_take]
  congr 1
  refine eq_of_perm_of_descending ?_ ?_ (List.pairwise_insertionSort _ _)
  · exact ((List.perm_insertionSort _ l).map f).trans (List.perm_insertionSort _ _).symm
  · exact List.Pairwise.map f (fun a b h => hf h) (List.pairwise_insertionSort _ _)

theorem topList_sublist_sort (k : ℕ) (l : List α) : (topList k l).Sublist (l.insertionSort (· ≥ ·)) := List.take_sublist _ _

/-- If `k` entries are at least `s`, the `k` greatest all are. -/
theorem le_of_countP (k : ℕ) (l : List α) (s : α) (h : k ≤ l.countP (s ≤ ·)) : ∀ a ∈ topList k l, s ≤ a := by
  intro a ha
  by_contra hlt
  have hlt := not_le.1 hlt
  obtain ⟨i, hi, rfl⟩ := List.getElem_of_mem ha
  have hik : i < k := lt_of_lt_of_le hi (by rw [length_topList]; exact min_le_left _ _)
  have hil : i < (l.insertionSort (· ≥ ·)).length := lt_of_lt_of_le hi (topList_sublist_sort k l).length_le
  have heq : (topList k l)[i] = (l.insertionSort (· ≥ ·))[i] := List.getElem_take
  rw [heq] at hlt
  have h1 := countP_gt_le_index (List.pairwise_insertionSort (· ≥ ·) l) i hil
  rw [(List.perm_insertionSort (· ≥ ·) l).countP_eq] at h1
  have h2 : l.countP (s ≤ ·) ≤ l.countP ((l.insertionSort (· ≥ ·))[i] < ·) :=
    List.countP_mono_left fun x _ hx => by
      simp only [decide_eq_true_eq] at hx ⊢
      exact lt_of_lt_of_le hlt hx
  omega

/-- An entry is among the `k` greatest of pairwise different ones if fewer than `k` exceed it. -/
theorem mem_topList_iff (k : ℕ) (l : List α) (hl : l.Nodup) (hk : k ≤ l.length) (a : α) (ha : a ∈ l) :
    a ∈ topList k l ↔ l.countP (a < ·) < k := by
  have hlen : (topList k l).length = k := by rw [length_topList, min_eq_left hk]
  have hnd := nodup_topList (k := k) hl
  constructor
  · intro h
    have hsub : (l.filter (a < ·)) ⊆ (topList k l).erase a := by
      intro b hb
      rw [List.mem_filter, decide_eq_true_eq] at hb
      rw [hnd.mem_erase_iff]
      refine ⟨hb.2.ne', ?_⟩
      by_contra hn
      exact absurd hb.2 (not_lt.2 (le_of_not_mem_topList h hb.1 hn))
    have := ((hl.filter _).subperm hsub).length_le
    rw [List.length_erase_of_mem h, hlen] at this
    rw [List.countP_eq_length_filter]
    have : 0 < (topList k l).length := List.length_pos_of_mem h
    omega
  · intro h
    by_contra hn
    have hsub : topList k l ⊆ l.filter (a < ·) := by
      intro b hb
      rw [List.mem_filter, decide_eq_true_eq]
      refine ⟨mem_of_mem_topList hb, lt_of_le_of_ne (le_of_not_mem_topList hb ha hn) ?_⟩
      rintro rfl
      exact hn hb
    have := (hnd.subperm hsub).length_le
    rw [List.countP_eq_length_filter] at h
    omega

/-! ## The two largest of eight values -/

/-- The two largest of two ordered pairs. -/
def mergeTwo (p q : α × α) : α × α := (max p.1 q.1, max (min p.1 q.1) (max p.2 q.2))

theorem topList_mergeTwo (p q : α × α) (hp : p.2 ≤ p.1) (hq : q.2 ≤ q.1) :
    [(mergeTwo p q).1, (mergeTwo p q).2] = topList 2 ([p.1, p.2] ++ [q.1, q.2]) := by
  obtain ⟨a, b⟩ := p
  obtain ⟨c, d⟩ := q
  have key : ∀ x y u v : α, ([x, y] ++ [u, v]).Perm ([a, b] ++ [c, d]) → y ≤ x → u ≤ y → v ≤ y →
      [x, y] = topList 2 ([a, b] ++ [c, d]) := by
    intro x y u v hperm hxy hu hv
    refine eq_topList hperm (by simp [hxy]) ?_
    intro z hz w hw
    simp only [List.mem_cons, List.not_mem_nil, or_false] at hz hw
    rcases hz with rfl | rfl <;> rcases hw with rfl | rfl
    · exact hu.trans hxy
    · exact hv.trans hxy
    · exact hu
    · exact hv
  simp only at hp hq
  unfold mergeTwo
  simp only
  rcases le_total c a with h | h
  · rw [max_eq_left h, min_eq_right h]
    rcases le_total c b with h' | h'
    · rw [max_eq_left (hq.trans h'), max_eq_right h']
      exact key _ _ c d (List.Perm.refl _) hp h' (hq.trans h')
    · rw [max_eq_left (max_le h' hq)]
      exact key _ _ b d ((List.Perm.swap b c [d]).cons a) h h' hq
  · rw [max_eq_right h, min_eq_left h]
    rcases le_total a d with h' | h'
    · rw [max_eq_right (hp.trans h'), max_eq_right h']
      refine key _ _ a b (List.perm_append_comm (l₁ := [c, d]) (l₂ := [a, b])) hq h' (hp.trans h')
    · rw [max_eq_left (max_le hp h')]
      refine key _ _ b d ?_ h hp h'
      exact (List.Perm.swap a c [b, d]).trans ((List.Perm.swap b c [d]).cons a)

/-- The two largest of eight values, by merging pairs. -/
def twoOf (v : ℕ → α) : α × α :=
  let pr := fun a b : α => (max a b, min a b)
  mergeTwo (mergeTwo (pr (v 0) (v 1)) (pr (v 2) (v 3))) (mergeTwo (pr (v 4) (v 5)) (pr (v 6) (v 7)))

theorem mergeTwo_le (p q : α × α) (hp : p.2 ≤ p.1) (hq : q.2 ≤ q.1) : (mergeTwo p q).2 ≤ (mergeTwo p q).1 := by
  unfold mergeTwo
  exact max_le (min_le_max) (max_le (hp.trans (le_max_left _ _)) (hq.trans (le_max_right _ _)))

theorem topList_twoOf (v : ℕ → α) : [(twoOf v).1, (twoOf v).2] = topList 2 (List.ofFn fun j : Fin 8 => v j) := by
  have hpr : ∀ a b : α, [max a b, min a b] = topList 2 [a, b] := by
    intro a b
    rcases le_total a b with h | h
    · rw [max_eq_right h, min_eq_left h, topList_perm (List.Perm.swap b a [])]
      exact (topList_eq_self (by simp [h]) (by simp)).symm
    · rw [max_eq_left h, min_eq_right h]
      exact (topList_eq_self (by simp [h]) (by simp)).symm
  have hle : ∀ a b : α, min a b ≤ max a b := fun a b => min_le_max
  have h4 : ∀ a b c d : α, [(mergeTwo (max a b, min a b) (max c d, min c d)).1, (mergeTwo (max a b, min a b) (max c d, min c d)).2]
      = topList 2 [a, b, c, d] := by
    intro a b c d
    rw [topList_mergeTwo _ _ (hle a b) (hle c d), hpr, hpr, topList_append_topList_topList]
    rfl
  unfold twoOf
  simp only
  rw [topList_mergeTwo _ _ (mergeTwo_le _ _ (hle _ _) (hle _ _)) (mergeTwo_le _ _ (hle _ _) (hle _ _)), h4, h4,
    topList_append_topList_topList]
  rfl

end

/-! ## Scores of groups, kept groups -/

/-- The sum of the two largest values. -/
def twoSum (v : ℕ → EReal) : EReal := (twoOf v).1 + (twoOf v).2

/-- If the sum of the two largest is above −∞, so are two of the values. -/
theorem two_le_countP (v : ℕ → EReal) (h : twoSum v ≠ ⊥) : 2 ≤ (List.ofFn fun j : Fin 8 => v j).countP (⊥ < ·) := by
  have ht := topList_twoOf v
  have h1 : (twoOf v).1 ≠ ⊥ := fun e => h (by unfold twoSum; rw [e, EReal.bot_add])
  have h2 : (twoOf v).2 ≠ ⊥ := fun e => h (by unfold twoSum; rw [e, EReal.add_bot])
  have hs := (topList_sublist_sort 2 (List.ofFn fun j : Fin 8 => v j)).countP_le (p := (⊥ < ·))
  rw [(List.perm_insertionSort (· ≥ ·) _).countP_eq, ← ht] at hs
  refine le_trans ?_ hs
  simp [List.countP_cons, bot_lt_iff_ne_bot, h1, h2]

variable (S : ℕ → EReal)

/-- A group's key. -/
def groupKey (g : Fin 8) : Key := key (S g) g.val

theorem groupKey_injective : Function.Injective (groupKey S) := fun a b h => by
  have := congrArg num h
  exact Fin.ext (by simpa [groupKey] using this)

/-- Group `g` is among the best four. -/
def kept (g : Fin 8) : Bool := decide (groupKey S g ∈ topList 4 (List.ofFn (groupKey S)))

theorem kept_iff_mem (g : Fin 8) : kept S g = true ↔ groupKey S g ∈ topList 4 (List.ofFn (groupKey S)) := decide_eq_true_iff

theorem kept_iff_countP (g : Fin 8) :
    kept S g = true ↔ (List.finRange 8).countP (fun h => decide (groupKey S g < groupKey S h)) < 4 := by
  rw [kept_iff_mem, mem_topList_iff 4 _ (List.nodup_ofFn.2 (groupKey_injective S)) (by simp) _ ((List.mem_ofFn' _ _).2 ⟨g, rfl⟩), List.ofFn_eq_map,
    List.countP_map]
  rfl

/-- The kept groups, in order. -/
def keptList : List (Fin 8) := (List.finRange 8).filter (kept S)

theorem mem_keptList (g : Fin 8) : g ∈ keptList S ↔ kept S g = true := by simp [keptList]

theorem length_keptList : (keptList S).length = 4 := by
  have hp : ((keptList S).map (groupKey S)).Perm (topList 4 (List.ofFn (groupKey S))) := by
    unfold keptList
    rw [List.perm_ext_iff_of_nodup (((List.nodup_finRange 8).filter _).map (groupKey_injective S))
      (nodup_topList (List.nodup_ofFn.2 (groupKey_injective S)))]
    intro a
    change a ∈ (keptList S).map (groupKey S) ↔ _
    rw [List.mem_map]
    constructor
    · rintro ⟨g, hg, rfl⟩
      exact (kept_iff_mem S g).1 ((mem_keptList S g).1 hg)
    · intro h
      obtain ⟨g, rfl⟩ := (List.mem_ofFn' _ _).mp (mem_of_mem_topList h)
      exact ⟨g, (mem_keptList S g).2 ((kept_iff_mem S g).2 h), rfl⟩
  have := hp.length_eq
  rw [List.length_map] at this
  rw [this, length_topList]
  simp

theorem groupKey_lt_of_kept {g h : Fin 8} (hg : kept S g = false) (hh : kept S h = true) : groupKey S g < groupKey S h := by
  have hn : groupKey S g ∉ topList 4 (List.ofFn (groupKey S)) := fun e => by
    rw [(kept_iff_mem S g).2 e] at hg; exact Bool.noConfusion hg
  refine lt_of_le_of_ne (le_of_not_mem_topList ((kept_iff_mem S h).1 hh) ((List.mem_ofFn' _ _).2 ⟨g, rfl⟩) hn) fun e => ?_
  rw [groupKey_injective S e, hh] at hg
  exact Bool.noConfusion hg

/-! ## The eight chosen entries -/

variable (c : ℕ → EReal)

/-- The score of group `g` of the values `c`. -/
def scoreOf (g : ℕ) : EReal := twoSum fun j => c (8 * g + j)

/-- The entries of group `g`. -/
def block (g : Fin 8) : List Key := List.ofFn fun j : Fin 8 => key (c (8 * g.val + j.val)) ((8 * g.val + j.val : ℕ) : ℤ)

/-- The value of expert `e`, −∞ if its group is not kept. -/
def masked (e : Fin 64) : EReal := if kept (scoreOf c) ⟨e.val / 8, by omega⟩ = true then c e.val else ⊥

/-- The key of expert `e` with its masked value. -/
def maskedKey (e : Fin 64) : Key := key (masked c e) (e.val : ℤ)

theorem maskedKey_injective : Function.Injective (maskedKey c) := fun a b h => by
  have := congrArg num h
  exact Fin.ext (by simpa [maskedKey] using this)

/-- The entries of the kept groups. -/
def keptEntries : List Key := (keptList (scoreOf c)).flatMap (block c)

theorem ofFn_maskedKey : List.ofFn (maskedKey c)
    = (List.finRange 8).flatMap fun g => List.ofFn fun j : Fin 8 => maskedKey c ⟨8 * g.val + j.val, by omega⟩ := by
  have h := List.ofFn_mul (m := 8) (n := 8) (maskedKey c)
  refine h.trans ?_
  rw [List.flatMap_def, ← List.ofFn_eq_map]
  congr 2
  funext g
  congr 1
  funext j
  congr 1
  exact Fin.ext (by simp [mul_comm])

theorem maskedKey_of_kept {g : Fin 8} (h : kept (scoreOf c) g = true) (j : Fin 8) :
    maskedKey c ⟨8 * g.val + j.val, by omega⟩ = key (c (8 * g.val + j.val)) ((8 * g.val + j.val : ℕ) : ℤ) := by
  unfold maskedKey masked
  have : (⟨(8 * g.val + j.val) / 8, by omega⟩ : Fin 8) = g := Fin.ext (by simp; omega)
  rw [this, if_pos h]

theorem maskedKey_of_not_kept {g : Fin 8} (h : kept (scoreOf c) g = false) (j : Fin 8) :
    maskedKey c ⟨8 * g.val + j.val, by omega⟩ = key ⊥ ((8 * g.val + j.val : ℕ) : ℤ) := by
  unfold maskedKey masked
  have : (⟨(8 * g.val + j.val) / 8, by omega⟩ : Fin 8) = g := Fin.ext (by simp; omega)
  rw [this, h, if_neg (by decide)]

theorem length_block (g : Fin 8) : (block c g).length = 8 := by simp [block]

/-- Two entries of a kept group with a score above −∞, or all eight of one with the score −∞, are above the
    entries of a group that is not kept. -/
theorem countP_block {g h : Fin 8} (hg : kept (scoreOf c) g = false) (hh : kept (scoreOf c) h = true) (j : Fin 8) :
    (scoreOf c h ≠ ⊥ ∧ 2 ≤ (block c h).countP (key ⊥ ((8 * g.val + j.val : ℕ) : ℤ) ≤ ·))
      ∨ 8 ≤ (block c h).countP (key ⊥ ((8 * g.val + j.val : ℕ) : ℤ) ≤ ·) := by
  by_cases hb : scoreOf c h = ⊥
  · right
    have hlt := groupKey_lt_of_kept (scoreOf c) hg hh
    have hhg : (h.val : ℤ) < g.val := by
      rcases key_lt.1 hlt with hv | hv
      · rw [hb] at hv; exact absurd hv not_lt_bot
      · exact hv.2
    have hall : (block c h).countP (key ⊥ ((8 * g.val + j.val : ℕ) : ℤ) ≤ ·) = (block c h).length := by
      rw [List.countP_eq_length]
      intro a ha
      obtain ⟨i, rfl⟩ := (List.mem_ofFn' _ _).mp ha
      rw [decide_eq_true_eq]
      refine le_of_lt (key_lt.2 ?_)
      rcases (bot_le : ⊥ ≤ c (8 * h.val + i.val)).lt_or_eq with h1 | h1
      · exact Or.inl h1
      · refine Or.inr ⟨h1, ?_⟩
        have := i.isLt
        push_cast
        omega
    rw [hall, length_block]
  · left
    refine ⟨hb, (two_le_countP _ hb).trans ?_⟩
    have : (List.ofFn fun j : Fin 8 => c (8 * h.val + j.val)) = (block c h).map val := by
      rw [block, List.map_ofFn]; rfl
    rw [this, List.countP_map]
    refine List.countP_mono_left fun a _ ha => ?_
    simp only [Function.comp_apply, decide_eq_true_eq] at ha ⊢
    exact le_of_lt ((lt_iff _ _).2 (Or.inl ha))

/-- The eight largest masked entries are the eight largest of the kept groups. -/
theorem topList_masked : topList 8 (List.ofFn (maskedKey c)) = topList 8 (keptEntries c) := by
  rw [ofFn_maskedKey]
  have hperm := ((List.filter_append_perm (kept (scoreOf c)) (List.finRange 8)).flatMap_right
    fun g => List.ofFn fun j : Fin 8 => maskedKey c ⟨8 * g.val + j.val, by omega⟩)
  rw [← topList_perm hperm, List.flatMap_append]
  have hA : (List.filter (kept (scoreOf c)) (List.finRange 8)).flatMap
      (fun g => List.ofFn fun j : Fin 8 => maskedKey c ⟨8 * g.val + j.val, by omega⟩) = keptEntries c := by
    unfold keptEntries keptList
    rw [List.flatMap_def, List.flatMap_def]
    congr 1
    refine List.map_congr_left fun g hg => ?_
    have hk : kept (scoreOf c) g = true := (List.mem_filter.1 hg).2
    unfold block
    congr 1
    funext j
    exact maskedKey_of_kept c hk j
  rw [hA]
  have hlen : (keptEntries c).length = 32 := by
    unfold keptEntries
    rw [List.length_flatMap, List.map_congr_left (g := fun _ => 8) (fun g _ => length_block c g), List.map_const',
      List.sum_replicate, length_keptList]
    rfl
  refine topList_append_of_le 8 _ _ (by rw [hlen]; decide) ?_
  intro s hs
  obtain ⟨g, hg, hs⟩ := List.mem_flatMap.1 hs
  have hg : kept (scoreOf c) g = false := by simpa using (List.mem_filter.1 hg).2
  obtain ⟨j, rfl⟩ := (List.mem_ofFn' _ _).mp hs
  beta_reduce
  rw [maskedKey_of_not_kept c hg j]
  refine le_of_countP 8 _ _ ?_
  unfold keptEntries
  rw [List.countP_flatMap]
  by_cases hall : ∀ h ∈ keptList (scoreOf c), 2 ≤ (block c h).countP (key ⊥ ((8 * g.val + j.val : ℕ) : ℤ) ≤ ·)
  · have := List.card_nsmul_le_sum ((keptList (scoreOf c)).map
      ((fun l => l.countP (key ⊥ ((8 * g.val + j.val : ℕ) : ℤ) ≤ ·)) ∘ block c)) 2 (by
        intro x hx
        obtain ⟨h, hh, rfl⟩ := List.mem_map.1 hx
        exact hall h hh)
    rw [List.length_map, length_keptList] at this
    exact this
  · push Not at hall
    obtain ⟨h, hh, hlt⟩ := hall
    rcases countP_block c hg ((mem_keptList _ h).1 hh) j with h2 | h8
    · exact absurd hlt (not_lt.2 h2.2)
    · exact h8.trans (List.single_le_sum (by simp) _ (List.mem_map_of_mem hh))

end Cert.Keys

end
-- ==== Proof.Chosen.lean ====
/- The eight chosen experts of a token: what the kernel's ranking, its lists of group members and its merges
   leave at a token are the eight largest entries of the kept groups, in order. -/
module

public import proofs.«01_k».proof.Proof.Lane
public import proofs.«01_k».proof.Proof.Groups

@[expose] public section

noncomputable section

namespace Cert.Body

open Idealize.ShloMosaic Idealize.ShloMosaic.SortNet Idealize.SL.Sem Cert.KernelIdeal Cert.KernelIdeal.Gen Cert.Keys

/-- A fold of vectors at an index is the fold of the values there. -/
theorem foldl_at {ι τ : Type} {β : Type} (l : List β) (f : (ι → τ) → β → ι → τ) (f' : τ → β → τ) (t : ι)
    (h : ∀ r, ∀ b ∈ l, f r b t = f' (r t) b) : ∀ r : ι → τ, l.foldl f r t = l.foldl f' (r t) := by
  induction l with
  | nil => intro r; rfl
  | cons b l ih =>
    intro r
    rw [List.foldl_cons, List.foldl_cons, ih (fun r c hc => h r c (List.mem_cons_of_mem _ hc)), h r b (List.mem_cons_self ..)]

theorem select_at {τ : Type} (m : Mask) (x y : S8x128.Idx → τ) (t : S8x128.Idx) :
    select m x y t = if m t = 1#1 then x t else y t := rfl

theorem select_of_iff {τ : Type} (m : Mask) (x y : S8x128.Idx → τ) (t : S8x128.Idx) (b : Bool) (h : m t = 1#1 ↔ b = true) :
    select m x y t = if b then x t else y t := by
  rw [select_at]
  by_cases hb : b = true
  · rw [if_pos (h.2 hb), if_pos hb]
  · rw [if_neg fun h' => hb (h.1 h'), if_neg hb]

theorem eq_iff (x y : Int32) (t : S8x128.Idx) : cmpi .eq x y t = 1#1 ↔ x t = y t :=
  ofBool_eq_one.trans beq_iff_eq

/-! ## Ranks -/

/-- The rank of group `g` from the groups that beat it. -/
def rankOf (w : ℕ → Bool) (g : ℕ) : BitVec 32 :=
  (List.range' (g + 1) (7 - g)).foldl (fun r b => r - (if !w b then 1#32 else 0#32))
    ((List.range g).foldl (fun r a => r + (if w a then 1#32 else 0#32)) (BitVec.ofNat 32 (7 - g)))

theorem rankOf_slt : ∀ n : Fin 256, ∀ g : Fin 8, n.val.testBit g.val = false →
    ((rankOf n.val.testBit g.val).toInt < (4#32).toInt ↔ (List.finRange 8).countP (fun h : Fin 8 => n.val.testBit h.val) < 4) := by
  decide +kernel

variable (s : ℕ → Val Ideal) (t : S8x128.Idx)

theorem rank_at (S : ℕ → EReal) (hS : ∀ g, (s g t : EReal) = S g) (g : Fin 8) (w : ℕ → Bool)
    (hw : ∀ h : Fin 8, w h.val = true ↔ groupKey S g < groupKey S h) : rank s g.val t = rankOf w g.val := by
  have hwin : ∀ a b : ℕ, ∀ p : Bool, (S b ≤ S a ↔ p = true) → wins s a b t = if p then 1#32 else 0#32 := by
    intro a b p hp
    refine select_of_iff _ _ _ t p ((oge_iff _ _ t).trans ?_)
    rw [hS, hS]
    exact hp
  unfold rank rankOf
  refine (foldl_at _ _ (fun r b => r - (if !w b then 1#32 else 0#32)) t ?_ _).trans (congrArg (fun z => List.foldl _ z _) ?_)
  · intro r b hb
    show r t - wins s g.val b t = _
    have hb := List.mem_range'.1 hb
    have hb8 : b < 8 := by obtain ⟨i, hi, rfl⟩ := hb; omega
    have hgb : g.val < b := by obtain ⟨i, hi, rfl⟩ := hb; omega
    rw [hwin g.val b (!w b)]
    have h := hw ⟨b, hb8⟩
    rw [groupKey, groupKey, key_lt] at h
    simp only at h
    rw [Bool.not_eq_true', ← Bool.not_eq_true, h, ← not_lt]
    refine not_congr ⟨Or.inl, ?_⟩
    rintro (h' | ⟨_, h'⟩)
    · exact h'
    · omega
  · refine foldl_at _ _ (fun r a => r + (if w a then 1#32 else 0#32)) t ?_ _
    intro r a ha
    show r t + wins s a g.val t = _
    have ha := List.mem_range.1 ha
    rw [hwin a g.val (w a)]
    have h := hw ⟨a, by omega⟩
    rw [groupKey, groupKey, key_lt] at h
    simp only at h
    rw [h]
    constructor
    · intro h'
      rcases h'.lt_or_eq with h' | h'
      · exact Or.inl h'
      · exact Or.inr ⟨h', by omega⟩
    · rintro (h' | ⟨h', _⟩)
      · exact h'.le
      · exact h'.le

theorem keep_iff (S : ℕ → EReal) (hS : ∀ g, (s g t : EReal) = S g) (g : Fin 8) :
    keep s g.val t = 1#1 ↔ kept S g = true := by
  obtain ⟨n, hn⟩ := exists_bits fun h => decide (groupKey S g < groupKey S h)
  have hw : ∀ h : Fin 8, n.val.testBit h.val = true ↔ groupKey S g < groupKey S h := fun h => by
    rw [← congrFun hn h]; exact decide_eq_true_iff
  have hg : n.val.testBit g.val = false := by
    rw [← congrFun hn g]; simp
  unfold keep
  rw [slt_iff, rank_at s t S hS g n.val.testBit hw, kept_iff_countP]
  show _ < (4#32).toInt ↔ _
  rw [rankOf_slt n g hg]
  have : (fun h : Fin 8 => n.val.testBit h.val) = fun h => decide (groupKey S g < groupKey S h) := hn.symm
  rw [this]

/-! ## The kept groups in order -/

def beforeOf (k : ℕ → Bool) (g : ℕ) : BitVec 32 :=
  (List.range g).foldl (fun r a => r + (if k a then 1#32 else 0#32)) 0#32

def keptOf (k : ℕ → Bool) (p : ℕ) : BitVec 32 :=
  (List.range' p 4).reverse.foldl
    (fun r g => if k g && decide (beforeOf k g = BitVec.ofNat 32 p) then BitVec.ofNat 32 g else r) (BitVec.ofNat 32 (p + 4))

theorem keptOf_eq : ∀ n : Fin 256, ((List.finRange 8).filter fun h : Fin 8 => n.val.testBit h.val).length = 4 → ∀ p : Fin 4,
    ∃ g : Fin 8, ((List.finRange 8).filter fun h : Fin 8 => n.val.testBit h.val)[p.val]? = some g
      ∧ keptOf n.val.testBit p.val = BitVec.ofNat 32 g.val ∧ p.val ≤ g.val ∧ g.val ≤ p.val + 4 := by
  decide +kernel

theorem keptGroup_at (k : ℕ → Bool) (hk : ∀ g : Fin 8, keep s g.val t = 1#1 ↔ k g.val = true) (p : Fin 4) :
    keptGroup s p.val t = keptOf k p.val := by
  unfold keptGroup keptOf
  refine foldl_at _ _ (fun r g => if k g && decide (beforeOf k g = BitVec.ofNat 32 p.val) then BitVec.ofNat 32 g else r) t ?_ _
  intro r g hg
  have hg := List.mem_range'.1 (List.mem_reverse.1 hg)
  have hg8 : g < 8 := by obtain ⟨i, hi, rfl⟩ := hg; omega
  have hb : before s g t = beforeOf k g := by
    unfold before beforeOf
    refine foldl_at _ _ (fun r a => r + (if k a then 1#32 else 0#32)) t ?_ _
    intro r a ha
    have ha := List.mem_range.1 ha
    show r t + select (keep s a) (lit 1) (lit 0) t = _
    rw [select_of_iff (keep s a) (lit 1) (lit 0) t (k a) (hk ⟨a, by omega⟩)]
    rfl
  refine select_of_iff _ _ _ t _ ?_
  rw [andi_iff, eq_iff, hb, Bool.and_eq_true, decide_eq_true_iff, hk ⟨g, hg8⟩]
  rfl

/-- The `p`-th kept group. -/
theorem exists_keptGroup (S : ℕ → EReal) (hS : ∀ g, (s g t : EReal) = S g) (p : Fin 4) :
    ∃ g : Fin 8, (keptList S)[p.val]? = some g ∧ keptGroup s p.val t = BitVec.ofNat 32 g.val
      ∧ p.val ≤ g.val ∧ g.val ≤ p.val + 4 := by
  obtain ⟨n, hn⟩ := exists_bits (kept S)
  have hl : keptList S = (List.finRange 8).filter fun h : Fin 8 => n.val.testBit h.val := by
    unfold keptList; rw [← hn]
  have hlen : ((List.finRange 8).filter fun h : Fin 8 => n.val.testBit h.val).length = 4 := by
    rw [← hl]; exact length_keptList S
  rw [hl, keptGroup_at s t n.val.testBit (fun g => by rw [keep_iff s t S hS g, congrFun hn g]) p]
  exact keptOf_eq n hlen p

/-! ## The members of a kept group -/

theorem ofNat_inj {a b : ℕ} (ha : a < 64) (hb : b < 64) : BitVec.ofNat 32 a = BitVec.ofNat 32 b ↔ a = b := by
  constructor
  · intro h
    have := congrArg BitVec.toNat h
    simp only [BitVec.toNat_ofNat] at this
    omega
  · rintro rfl; rfl

theorem toInt_ofNat {a : ℕ} (ha : a < 64) : (BitVec.ofNat 32 a).toInt = (a : ℤ) := by
  rw [BitVec.toInt_eq_toNat_of_lt] <;> rw [BitVec.toNat_ofNat] <;> omega

variable (ch : ℕ → Val Ideal) (c : ℕ → EReal) (hc : ∀ e, (ch e t : EReal) = c e)
include hc

theorem groupScore_at (g : ℕ) : (groupScore ch g t : EReal) = scoreOf c g := by
  have : c = fun e => (ch e t : EReal) := funext fun e => (hc e).symm
  subst this
  rfl

theorem lane_members (p : Fin 4) (g : Fin 8) (hg : keptGroup s p.val t = BitVec.ofNat 32 g.val) (hp : p.val ≤ g.val)
    (hp' : g.val ≤ p.val + 4) (j : Fin 8) :
    lane (members ch s p.val) t j = key (c (8 * g.val + j.val)) ((8 * g.val + j.val : ℕ) : ℤ) := by
  have h1 : ((members ch s p.val j.val).1 t : EReal) = c (8 * g.val + j.val) := by
    unfold members
    refine (foldl_at _ _ (fun r h => if decide (g.val = h) then c (8 * h + j.val) else r) t ?_ _).trans ?_
    · intro r h hh
      have hh := List.mem_range'.1 hh
      have hh8 : h < 8 := by obtain ⟨i, hi, rfl⟩ := hh; omega
      rw [select_of_iff _ _ _ t (decide (g.val = h)), hc]
      rw [eq_iff, hg, decide_eq_true_iff]
      exact ofNat_inj (by omega) (by omega)
    · rw [hc]
      have : List.range' p.val 4 = [p.val, p.val + 1, p.val + 2, p.val + 3] := rfl
      rw [this]
      simp only [List.foldl_cons, List.foldl_nil, decide_eq_true_eq]
      have : g.val = p.val ∨ g.val = p.val + 1 ∨ g.val = p.val + 2 ∨ g.val = p.val + 3 ∨ g.val = p.val + 4 := by omega
      rcases this with h | h | h | h | h <;> rw [h] <;> simp
  have h2 : (members ch s p.val j.val).2 t = BitVec.ofNat 32 (8 * g.val + j.val) := by
    show keptGroup s p.val t * BitVec.ofNat 32 8 + BitVec.ofNat 32 j.val = _
    rw [hg, ← BitVec.ofNat_mul, ← BitVec.ofNat_add, mul_comm]
  unfold lane
  rw [h1, h2, toInt_ofNat (by omega)]

/-- The sorted members of a kept group. -/
theorem sorted_members (p : Fin 4) (g : Fin 8) (hg : keptGroup s p.val t = BitVec.ofNat 32 g.val) (hp : p.val ≤ g.val)
    (hp' : g.val ≤ p.val + 4) :
    Antitone (lane (sorted (members ch s p.val)) t)
      ∧ List.ofFn (lane (sorted (members ch s p.val)) t) = topList 8 (block c g) := by
  have hl : lane (members ch s p.val) t = fun j : Fin 8 => key (c (8 * g.val + j.val)) ((8 * g.val + j.val : ℕ) : ℤ) :=
    funext (lane_members s t ch c hc p g hg hp hp')
  have hst : Stable (lane (members ch s p.val) t) := by
    rw [hl]
    intro i j hij _
    have : i.val < j.val := hij
    simp only [num_key]
    omega
  rw [lane_sorted _ t hst]
  refine ⟨sortNet_antitone _, ?_⟩
  rw [ofFn_sortNet, hl]
  rfl

omit hc in
/-- Merging two sorted lists of the eight largest of `A` and of `B`, where the numbers in `A` are smaller. -/
theorem merge_step (a b : Entries Ideal) (A B : List Key) (ha : Antitone (lane a t) ∧ List.ofFn (lane a t) = topList 8 A)
    (hb : Antitone (lane b t) ∧ List.ofFn (lane b t) = topList 8 B) (hAB : ∀ x ∈ A, ∀ y ∈ B, num x < num y) :
    Antitone (lane (merged a b) t) ∧ List.ofFn (lane (merged a b) t) = topList 8 (A ++ B) := by
  have hmem : ∀ (e : Entries Ideal) (L : List Key), List.ofFn (lane e t) = topList 8 L → ∀ p, lane e t p ∈ L := by
    intro e L h p
    exact mem_of_mem_topList (k := 8) (h ▸ (List.mem_ofFn' _ _).2 ⟨p, rfl⟩)
  have h := lane_merged a b t ha.1 hb.1 fun p q => hAB _ (hmem a A ha.2 p) _ (hmem b B hb.2 q)
  have hm := merge_eq _ _ ha.1 hb.1
  rw [h]
  refine ⟨hm.1, hm.2.trans ?_⟩
  rw [ha.2, hb.2, topList_append_topList_topList]

/-- THE CHOSEN EXPERTS: at a token, the eight largest entries of the kept groups, in order. -/
theorem lane_chosen : List.ofFn (lane (chosen ch) t) = topList 8 (keptEntries c) := by
  have hS := groupScore_at t ch c hc
  choose γ hγ hk hp hp' using exists_keptGroup (groupScore ch) t (scoreOf c) hS
  have hlen := length_keptList (scoreOf c)
  have hlist : keptList (scoreOf c) = [γ 0, γ 1, γ 2, γ 3] := by
    refine List.ext_getElem? fun i => ?_
    rcases Nat.lt_or_ge i 4 with h | h
    · have := hγ ⟨i, h⟩
      rw [this]
      interval_cases i <;> rfl
    · rw [List.getElem?_eq_none (by omega), List.getElem?_eq_none (by simpa using h)]
  have hmono : (keptList (scoreOf c)).Pairwise (· < ·) := (List.pairwise_lt_finRange 8).sublist List.filter_sublist
  rw [hlist] at hmono
  simp only [List.pairwise_cons, List.mem_cons, List.not_mem_nil, or_false, forall_eq_or_imp, forall_eq] at hmono
  have hnum : ∀ g h : Fin 8, g < h → ∀ x ∈ block c g, ∀ y ∈ block c h, num x < num y := by
    intro g h hgh x hx y hy
    obtain ⟨i, rfl⟩ := (List.mem_ofFn' _ _).mp hx
    obtain ⟨j, rfl⟩ := (List.mem_ofFn' _ _).mp hy
    have hgh : g.val < h.val := hgh
    have := i.isLt
    simp only [num_key]
    omega
  have hs := fun p => sorted_members (groupScore ch) t ch c hc p (γ p) (hk p) (hp p) (hp' p)
  have m01 := merge_step t _ _ _ _ (hs 0) (hs 1) (hnum _ _ hmono.1.1)
  have m23 := merge_step t _ _ _ _ (hs 2) (hs 3) (hnum _ _ hmono.2.2.1)
  have m := merge_step t _ _ _ _ m01 m23 (by
    intro x hx y hy
    rcases List.mem_append.1 hx with hx | hx <;> rcases List.mem_append.1 hy with hy | hy
    · exact hnum _ _ hmono.1.2.1 x hx y hy
    · exact hnum _ _ hmono.1.2.2 x hx y hy
    · exact hnum _ _ hmono.2.1.1 x hx y hy
    · exact hnum _ _ hmono.2.1.2 x hx y hy)
  refine (show List.ofFn (lane (chosen ch) t) = _ from m.2).trans ?_
  unfold keptEntries
  rw [hlist]
  simp [List.flatMap_cons]

/-- Its value and its number at place `k`: those of the `k`-th of the eight largest masked entries. -/
theorem chosen_at (k : Fin 8) : some (lane (chosen ch) t k) = (topList 8 (List.ofFn (maskedKey c)))[k.val]? := by
  rw [topList_masked, ← lane_chosen t ch c hc, List.getElem?_ofFn, dif_pos k.isLt]

end Cert.Body

end
-- ==== Proof.Step.lean ====
/- One step at one token: the numbers of the eight chosen experts and their weights, from the token's 64
   scores and the 64 biases. -/
module

public import proofs.«01_k».proof.Proof.Reads
public import proofs.«01_k».proof.Proof.Chosen

@[expose] public section

set_option maxRecDepth 16384

noncomputable section

namespace Cert.Keys

open Idealize.ShloMosaic Idealize.ShloMosaic.SortNet Idealize.SL.Sem

theorem exists_expert (c : ℕ → EReal) (k : Fin 8) :
    ∃ e : Fin 64, (topList 8 (List.ofFn (maskedKey c)))[k.val]? = some (maskedKey c e) := by
  have hk : k.val < (topList 8 (List.ofFn (maskedKey c))).length := by
    rw [length_topList, List.length_ofFn]; omega
  rw [List.getElem?_eq_getElem hk]
  obtain ⟨e, he⟩ := List.mem_ofFn.1 (mem_of_mem_topList (List.getElem_mem hk))
  exact ⟨e, congrArg some he.symm⟩

/-- The `k`-th chosen expert when the choice values are `c`. -/
def expert (c : ℕ → EReal) (k : Fin 8) : Fin 64 := (exists_expert c k).choose

theorem expert_spec (c : ℕ → EReal) (k : Fin 8) :
    (topList 8 (List.ofFn (maskedKey c)))[k.val]? = some (maskedKey c (expert c k)) := (exists_expert c k).choose_spec

theorem eq_expert (c : ℕ → EReal) (k : Fin 8) (e : Fin 64) (h : (topList 8 (List.ofFn (maskedKey c)))[k.val]? = some (maskedKey c e)) :
    e = expert c k :=
  maskedKey_injective c (Option.some.inj (h.symm.trans (expert_spec c k)))

/-- The choice values from scores and biases. -/
def choiceOf (σ β : Fin 64 → EReal) : ℕ → EReal := fun e => σ (Fin.ofNat 64 e) + β (Fin.ofNat 64 e)

/-- The weight of the `k`-th chosen expert. -/
def weightOf (σ β : Fin 64 → EReal) (k : Fin 8) : EReal :=
  Ideal.div (σ (expert (choiceOf σ β) k)) (∑ i : Fin 8, σ (expert (choiceOf σ β) i)) * Ideal.ofBits .f32 0x40200000#32

end Cert.Keys

namespace Cert.Body

open Idealize.ShloMosaic Idealize.SL.Sem Cert.KernelIdeal Cert.KernelIdeal.Gen Cert.Keys Idealize.ShloMosaic.SortNet

variable (L : Loads Ideal)

/-- The score that the gather and the selection by group pick. -/
theorem picked_at (r : Fin 8) (ids : Int32) (k : Fin 8) (l : Fin 128) (e : Fin 64) (h : ids (ix2 k l) = BitVec.ofNat 32 e.val) :
    picked L readBack r ids (ix2 k l) = scores L (r.val / 2) (ix2 e (⟨128 * (r.val % 2) + l.val, by omega⟩ : Fin 256)) := by
  have hsel : ∀ g : ℕ, g < 8 → ∀ x y : Val Ideal, select (cmpi .eq (shrsi ids (lit 3)) (lit g)) x y (ix2 k l)
      = if e.val / 8 = g then x (ix2 k l) else y (ix2 k l) := by
    intro g hg x y
    refine (select_of_iff _ x y _ (decide (e.val / 8 = g)) ?_).trans (by simp only [decide_eq_true_eq])
    rw [eq_iff, decide_eq_true_eq]
    have hs : shrsi ids (lit 3) (ix2 k l) = BitVec.ofNat 32 (e.val / 8) := by
      show IntOp.shrsi .vector (ids (ix2 k l)) 3#32 = _
      rw [h]
      exact (by decide +kernel : ∀ e : Fin 64, IntOp.shrsi .vector (BitVec.ofNat 32 e.val) 3#32 = BitVec.ofNat 32 (e.val / 8)) e
    rw [hs]
    exact ofNat_inj (by omega) (by omega)
  have hg : ∀ g : Fin 8, e.val / 8 = g.val → gathered L readBack r ids g (ix2 k l)
      = scores L (r.val / 2) (ix2 e (⟨128 * (r.val % 2) + l.val, by omega⟩ : Fin 256)) := by
    intro g hg
    rw [gathered_at L readBack r ids g k l e.val e.isLt h, scoreRect_at]
    refine scores_congr L rfl ?_ rfl
    show 8 * g.val + e.val % 8 = e.val
    omega
  unfold picked
  simp only [List.foldl_cons, List.foldl_nil]
  rw [hsel 7 (by decide), hsel 6 (by decide), hsel 5 (by decide), hsel 4 (by decide), hsel 3 (by decide), hsel 2 (by decide), hsel 1 (by decide)]
  split_ifs with h7 h6 h5 h4 h3 h2 h1
  · exact hg 7 h7
  · exact hg 6 h6
  · exact hg 5 h5
  · exact hg 4 h4
  · exact hg 3 h3
  · exact hg 2 h2
  · exact hg 1 h1
  · exact hg 0 (by show e.val / 8 = 0; omega)

variable (σ β : Fin 64 → EReal) (r : Fin 8) (l : Fin 128)

theorem rowIds_expert (hσ : ∀ e : Fin 64, (scores L (r.val / 2) (ix2 e (⟨128 * (r.val % 2) + l.val, by omega⟩ : Fin 256)) : EReal) = σ e)
    (hβ : ∀ e : Fin 64, (L.eb (ix2 e 0) : EReal) = β e) (k : Fin 8) :
    rowIds L readBack readBack r (ix2 k l) = BitVec.ofNat 32 (expert (choiceOf σ β) k).val := by
  have hc : ∀ e : ℕ, (choiceAt L readBack e (ix2 r l) : EReal) = choiceOf σ β e := by
    intro e
    have h1 : choiceAt L readBack e = choiceAt L readBack (Fin.ofNat 64 e).val := by
      unfold choiceAt
      rw [show Fin.ofNat 64 (Fin.ofNat 64 e).val = Fin.ofNat 64 e from Fin.ext (Nat.mod_mod _ _)]
    rw [h1, choiceAt_at, choices_at]
    exact congr (congrArg _ (hσ _)) (hβ _)
  have h := (chosen_at (ix2 r l) (choiceAt L readBack) (choiceOf σ β) hc k).trans (expert_spec (choiceOf σ β) k)
  have h' := congrArg num (Option.some.inj h)
  have h'' : ((chosen (choiceAt L readBack) k.val).2 (ix2 r l)).toInt = ((expert (choiceOf σ β) k).val : ℤ) := h'
  rw [rowIds_at]
  refine BitVec.eq_of_toInt_eq ?_
  rw [h'', toInt_ofNat (expert (choiceOf σ β) k).isLt]

theorem ids_at (hσ : ∀ e : Fin 64, (scores L (r.val / 2) (ix2 e (⟨128 * (r.val % 2) + l.val, by omega⟩ : Fin 256)) : EReal) = σ e)
    (hβ : ∀ e : Fin 64, (L.eb (ix2 e 0) : EReal) = β e) (k : Fin 8) (y : S1x8x1024.Idx) (h1 : (y 1).val = k.val)
    (h2 : (y 2).val = 128 * r.val + l.val) :
    View.canon (Val := Elt Ideal) (idsPieces L readBack readBack) y = BitVec.ofNat 32 (expert (choiceOf σ β) k).val :=
  (idsPieces_at L readBack readBack r k l y h1 h2).trans (rowIds_expert L σ β r l hσ hβ k)

theorem weights_at (hσ : ∀ e : Fin 64, (scores L (r.val / 2) (ix2 e (⟨128 * (r.val % 2) + l.val, by omega⟩ : Fin 256)) : EReal) = σ e)
    (hβ : ∀ e : Fin 64, (L.eb (ix2 e 0) : EReal) = β e) (k : Fin 8) (y : S1x8x1024.Idx) (h1 : (y 1).val = k.val)
    (h2 : (y 2).val = 128 * r.val + l.val) :
    (View.canon (Val := Elt Ideal) (weightsPieces L readBack readBack readBack) y : EReal) = weightOf σ β k := by
  refine (weightsPieces_at L readBack readBack readBack r k l y h1 h2).trans ((weigh_at _ k l).trans ?_)
  have hp : ∀ k : Fin 8, (picked L readBack r (rowIds L readBack readBack r) (ix2 k l) : EReal) = σ (expert (choiceOf σ β) k) := fun k =>
    (picked_at L r _ k l (expert (choiceOf σ β) k) (rowIds_expert L σ β r l hσ hβ k)).trans (hσ _)
  unfold weightOf
  exact congrArg (· * Ideal.ofBits .f32 0x40200000#32) (congr (congrArg Ideal.div (hp k)) (Finset.sum_congr rfl fun i _ => hp i))

end Cert.Body

end
-- ==== Proof.Outs.lean ====
/- What the two result windows hold after each grid step: the step's stores over the loads of its input blocks
   and of the weights expanded at the first step, which every later step finds unchanged. -/
module

public import proofs.«01_k».proof.Proof.BodyRun
public import proofs.«01_k».proof.Proof.Step
public import proofs.«01_k».proof.Proof.Gen.KernelIdeal.Value

@[expose] public section

set_option maxRecDepth 16384

noncomputable section

namespace Cert.Body

open Idealize.ShloMosaic Idealize.ShloMosaic.TcCoe Idealize.SL.Sem Cert.KernelIdeal Cert.KernelIdeal.Gen
open Idealize.ShloMosaic.Pipeline (Dat)

/-- Contents read through a box. -/
def plain {s : Shape} {e : EltTy} (x : Vec Ideal s e) : Loader Ideal s e := fun B j => x (B.idx j)

theorem reader_eq {s : Shape} {e : EltTy} (arg : Memref sig .tc .vmem s e) : reader (F := Ideal) arg = readBack := by
  funext L B
  exact View.readCov_eq_canon' arg.view L B

theorem loader_eq {s : Shape} {e : EltTy} (arg : Memref sig .tc .vmem s e) (h : arg.IsWhole) (x : Vec Ideal s e) :
    loader arg h x = plain x := by
  funext B j
  exact (View.readAt_apply _ _ _).trans (congrFun (h.read_unread x) _)

/-- The contents that stores leave. -/
def left {s : Shape} {e : EltTy} (L : List (View.Piece (Elt Ideal) s e)) : Vec Ideal s e := View.canon (Val := Elt Ideal) L

/-- The expanded weights. -/
def expanded (x2 : Vec Ideal S64x2048 .fp8e4m3) : Vec Ideal S8x128x256 .bf16 := left (wexpPieces (plain x2))

/-- The loads of a step from its blocks. -/
def stepLoads (x0 : Vec Ideal S1024x2048 .fp8e4m3) (x1 : Vec Ideal S1x16x1024 .f32) (x2 : Vec Ideal S64x2048 .fp8e4m3)
    (x3 x4 : Vec Ideal S64x1 .f32) : Loads Ideal :=
  loads (plain x0) (plain x1) (plain (expanded x2)) (plain x3) (plain x4)

section
variable (c : Dev nD) (i : grid0.Coords) (arg1 : Memref sig .tc .vmem S1024x2048 .fp8e4m3) (harg1 : arg1.IsWhole)
  (arg2 : Memref sig .tc .vmem S1x16x1024 .f32) (harg2 : arg2.IsWhole) (arg3 : Memref sig .tc .vmem S64x2048 .fp8e4m3)
  (harg3 : arg3.IsWhole) (arg4 : Memref sig .tc .vmem S64x1 .f32) (harg4 : arg4.IsWhole)
  (arg5 : Memref sig .tc .vmem S64x1 .f32) (harg5 : arg5.IsWhole) (arg6 : Memref sig .tc .vmem S1x8x1024 .i32)
  (harg6 : arg6.IsWhole) (arg7 : Memref sig .tc .vmem S1x8x1024 .f32) (harg7 : arg7.IsWhole)
  (arg8 : Memref sig .tc .vmem S8x128x256 .bf16) (harg8 : arg8.IsWhole) (arg9 : Memref sig .tc .vmem S64x1024 .f32)
  (harg9 : arg9.IsWhole) (arg10 : Memref sig .tc .vmem S544x128 .f32) (harg10 : arg10.IsWhole)
  (arg11 : Memref sig .tc .vmem S72x128 .i32) (harg11 : arg11.IsWhole)
  (x0 : Vec Ideal S1024x2048 .fp8e4m3) (x1 : Vec Ideal S1x16x1024 .f32) (x2 : Vec Ideal S64x2048 .fp8e4m3)
  (x3 : Vec Ideal S64x1 .f32) (x4 : Vec Ideal S64x1 .f32) (xs0 : Vec Ideal S8x128x256 .bf16)

theorem outA_ids (hc0 : cond0_0 i) :
    out0_A_5 (F := Ideal) c i arg1 harg1 arg2 harg2 arg3 harg3 arg4 harg4 arg5 harg5 arg6 harg6 arg7 harg7 arg8 harg8 arg9 harg9 arg10 harg10 arg11 harg11 hc0 x0 x1 x2 x3 x4
      = left (idsPieces (stepLoads x0 x1 x2 x3 x4) readBack readBack) := by
  refine (View.read_writes_junk_eq_canon _ _).trans ((congrArg left (runA_ids c i arg1 harg1 arg2 harg2 arg3 harg3 arg4 harg4 arg5 harg5 arg6 harg6 arg7 harg7 arg8 harg8 arg9 harg9 arg10 harg10 arg11 harg11 x0 x1 x2 x3 x4 hc0)).trans ?_)
  unfold loadsA
  simp only [reader_eq, loader_eq]
  rfl

theorem outA_weights (hc0 : cond0_0 i) :
    out0_A_6 (F := Ideal) c i arg1 harg1 arg2 harg2 arg3 harg3 arg4 harg4 arg5 harg5 arg6 harg6 arg7 harg7 arg8 harg8 arg9 harg9 arg10 harg10 arg11 harg11 hc0 x0 x1 x2 x3 x4
      = left (weightsPieces (stepLoads x0 x1 x2 x3 x4) readBack readBack readBack) := by
  refine (View.read_writes_junk_eq_canon _ _).trans ((congrArg left (runA_weights c i arg1 harg1 arg2 harg2 arg3 harg3 arg4 harg4 arg5 harg5 arg6 harg6 arg7 harg7 arg8 harg8 arg9 harg9 arg10 harg10 arg11 harg11 x0 x1 x2 x3 x4 hc0)).trans ?_)
  unfold loadsA
  simp only [reader_eq, loader_eq]
  rfl

theorem outA_expanded (hc0 : cond0_0 i) :
    sout0_A_0 (F := Ideal) c i arg1 harg1 arg2 harg2 arg3 harg3 arg4 harg4 arg5 harg5 arg6 harg6 arg7 harg7 arg8 harg8 arg9 harg9 arg10 harg10 arg11 harg11 hc0 x0 x1 x2 x3 x4
      = expanded x2 := by
  refine (View.read_writes_junk_eq_canon _ _).trans ((congrArg left (runA_wexp c i arg1 harg1 arg2 harg2 arg3 harg3 arg4 harg4 arg5 harg5 arg6 harg6 arg7 harg7 arg8 harg8 arg9 harg9 arg10 harg10 arg11 harg11 x0 x1 x2 x3 x4 hc0)).trans ?_)
  skip
  simp only [reader_eq, loader_eq]
  rfl

theorem outB_ids (hc0 : ¬cond0_0 i) (hx : xs0 = expanded x2) :
    out0_B_5 (F := Ideal) c i arg1 harg1 arg2 harg2 arg3 harg3 arg4 harg4 arg5 harg5 arg6 harg6 arg7 harg7 arg8 harg8 arg9 harg9 arg10 harg10 arg11 harg11 hc0 x0 x1 x2 x3 x4 xs0
      = left (idsPieces (stepLoads x0 x1 x2 x3 x4) readBack readBack) := by
  subst hx
  refine (View.read_writes_junk_eq_canon _ _).trans ((congrArg left (runB_ids c i arg1 harg1 arg2 harg2 arg3 harg3 arg4 harg4 arg5 harg5 arg6 harg6 arg7 harg7 arg8 harg8 arg9 harg9 arg10 harg10 arg11 harg11 x0 x1 x2 x3 x4 _ hc0)).trans ?_)
  unfold loadsB
  simp only [reader_eq, loader_eq]
  rfl

theorem outB_weights (hc0 : ¬cond0_0 i) (hx : xs0 = expanded x2) :
    out0_B_6 (F := Ideal) c i arg1 harg1 arg2 harg2 arg3 harg3 arg4 harg4 arg5 harg5 arg6 harg6 arg7 harg7 arg8 harg8 arg9 harg9 arg10 harg10 arg11 harg11 hc0 x0 x1 x2 x3 x4 xs0
      = left (weightsPieces (stepLoads x0 x1 x2 x3 x4) readBack readBack readBack) := by
  subst hx
  refine (View.read_writes_junk_eq_canon _ _).trans ((congrArg left (runB_weights c i arg1 harg1 arg2 harg2 arg3 harg3 arg4 harg4 arg5 harg5 arg6 harg6 arg7 harg7 arg8 harg8 arg9 harg9 arg10 harg10 arg11 harg11 x0 x1 x2 x3 x4 _ hc0)).trans ?_)
  unfold loadsB
  simp only [reader_eq, loader_eq]
  rfl

end

variable (m : (ℓ : Loc nD τ sig) → Buf (Elt Ideal) ℓ) (c : Dev nD)

/-- The loads of grid point `t`. -/
def loadsAt (t : Fin cfg0.N) : Loads Ideal :=
  stepLoads (iblk m c 0 t) (iblk m c 1 t) (iblk m c 2 t) (iblk m c 3 t) (iblk m c 4 t)

theorem first_outs (t : Fin cfg0.N) (h0 : t.val % 12 = 0) : outsAt0 m c t.val t.isLt
    = (left (idsPieces (loadsAt m c t) readBack readBack), left (weightsPieces (loadsAt m c t) readBack readBack readBack),
       expanded (iblk m c 2 t)) := by
  refine (outsAt0_A m c t h0).trans ?_
  rw [outA_ids, outA_weights, outA_expanded]
  rfl

theorem later_outs (t : Fin cfg0.N) (h0 : ¬t.val % 12 = 0) (hx : (outsAt0 m c (t.val - 1) (by omega)).2.2 = expanded (iblk m c 2 t)) :
    outsAt0 m c t.val t.isLt
    = (left (idsPieces (loadsAt m c t) readBack readBack), left (weightsPieces (loadsAt m c t) readBack readBack readBack),
       expanded (iblk m c 2 t)) := by
  refine (outsAt0_B m c t h0).trans ?_
  rw [outB_ids (hx := hx), outB_weights (hx := hx)]
  unfold sout0_B_0
  rw [hx]
  rfl

theorem index2 : ∀ t : Fin cfg0.N, win0_2.index t = fun _ => 0 :=
  (by decide +kernel : ∀ t : Fin grid0.N, win0_2.index t = fun _ => 0)

end Cert.Body

end
-- ==== Proof.Expanded.lean ====
/- The expanded weights: a column block of the weights on the diagonal of its 128 × 256 block, zero beside it. -/
module

public import proofs.«01_k».proof.Proof.Outs

@[expose] public section

set_option maxRecDepth 16384

noncomputable section

namespace Cert.Body

open Idealize.ShloMosaic Idealize.SL.Sem Cert.KernelIdeal Cert.KernelIdeal.Gen

variable (x2 : Vec Ideal S64x2048 .fp8e4m3)

/-- The expanded weights, entry by entry. -/
def diagonal (y : S8x128x256.Idx) : EReal :=
  if (y 1).val / 64 = (y 2).val / 128 then
    x2 (ix2 (⟨(y 1).val % 64, Nat.mod_lt _ (by decide)⟩ : Fin 64)
      (⟨256 * (y 0).val + (y 2).val, by have := (y 0).isLt; have := (y 2).isLt; simp at *; omega⟩ : Fin 2048))
  else 0

/-- A store whose contents are the expanded weights. -/
def Fits (p : View.Piece (Elt Ideal) S8x128x256 .bf16) : Prop := ∀ x, (p.2 x : EReal) = diagonal x2 (p.1.emb x)

theorem wide_at (k : Fin 8) (e : Fin 64) (n : Fin 256) :
    (wide (plain x2) k (ix2 e n) : EReal) = x2 (ix2 e (⟨256 * k.val + n.val, by omega⟩ : Fin 2048)) := by
  pointwise [wide]
  refine congrArg (fun i => (x2 i : EReal)) ?_
  funext a
  refine Fin.ext ?_
  match a with
  | ⟨0, _⟩ => show 0 + 1 * e.val = e.val; omega
  | ⟨1, _⟩ => show 256 * k.val + 1 * n.val = 256 * k.val + n.val; omega

theorem quarter_eq (k : Fin 8) (r d : Fin 2) (x : S1x64x128.Idx) :
    ((quarter k r d).emb x 0).val = k.val ∧ ((quarter k r d).emb x 1).val = 64 * r.val + (x 1).val
      ∧ ((quarter k r d).emb x 2).val = 128 * d.val + (x 2).val := by
  have h0 : (x 0).val < 1 := (x 0).isLt
  have a0 : ((quarter k r d).emb x 0).val = k.val + 1 * (x 0).val := rfl
  have a1 : ((quarter k r d).emb x 1).val = 64 * r.val + 1 * (x 1).val := rfl
  have a2 : ((quarter k r d).emb x 2).val = 128 * d.val + 1 * (x 2).val := rfl
  omega

theorem fits_zero (k : Fin 8) (r d : Fin 2) (h : r ≠ d) : Fits x2 ⟨quarter k r d, zeroHalf (F := Ideal)⟩ := by
  intro x
  obtain ⟨e0, e1, e2⟩ := quarter_eq k r d x
  have h1 : (x 1).val < 64 := (x 1).isLt
  have h2 : (x 2).val < 128 := (x 2).isLt
  have hrd : r.val ≠ d.val := fun h' => h (Fin.ext h')
  unfold diagonal
  rw [if_neg (by show ¬ ((quarter k r d).emb x 1).val / 64 = ((quarter k r d).emb x 2).val / 128; rw [e1, e2]; omega)]
  show (zeroHalf (F := Ideal) x : EReal) = 0
  pointwise [zeroHalf]

theorem fits_slice (k : Fin 8) (r : Fin 2) (v : FVec Ideal S1x64x128 .bf16)
    (hv : ∀ (e : Fin 64) (n : Fin 128), (v (ix3 0 e n) : EReal) = wide (plain x2) k (ix2 e (⟨128 * r.val + n.val, by omega⟩ : Fin 256))) :
    Fits x2 ⟨quarter k r r, v⟩ := by
  intro x
  obtain ⟨e0, e1, e2⟩ := quarter_eq k r r x
  have h0 : (x 0).val < 1 := (x 0).isLt
  have h1 : (x 1).val < 64 := (x 1).isLt
  have h2 : (x 2).val < 128 := (x 2).isLt
  have hx : x = ix3 (0 : Fin 1) (⟨(x 1).val, h1⟩ : Fin 64) (⟨(x 2).val, h2⟩ : Fin 128) := by
    funext a
    refine Fin.ext ?_
    match a with
    | ⟨0, _⟩ => show (x 0).val = 0; omega
    | ⟨1, _⟩ => rfl
    | ⟨2, _⟩ => rfl
  unfold diagonal
  rw [if_pos (by show ((quarter k r r).emb x 1).val / 64 = ((quarter k r r).emb x 2).val / 128; rw [e1, e2]; omega)]
  refine (congrArg (fun i => (v i : EReal)) hx).trans ((hv _ _).trans ((wide_at x2 k _ _).trans ?_))
  refine congrArg (fun i => (x2 i : EReal)) ?_
  funext a
  refine Fin.ext ?_
  match a with
  | ⟨0, _⟩ => show (x 1).val = ((quarter k r r).emb x 1).val % 64; rw [e1]; omega
  | ⟨1, _⟩ => show 256 * k.val + (128 * r.val + (x 2).val) = 256 * ((quarter k r r).emb x 0).val + ((quarter k r r).emb x 2).val; rw [e0, e2]

theorem fits_block (k : Fin 8) (L : List (View.Piece (Elt Ideal) S8x128x256 .bf16)) (h : ∀ p ∈ L, Fits x2 p) :
    ∀ p ∈ wexpBlock (plain x2) k L, Fits x2 p := by
  intro p hp
  simp only [wexpBlock, List.mem_cons] at hp
  rcases hp with rfl | rfl | rfl | rfl | hp
  · exact fits_slice x2 k 1 _ fun e n => by pointwise []
  · exact fits_zero x2 k 1 0 (by decide)
  · exact fits_zero x2 k 0 1 (by decide)
  · exact fits_slice x2 k 0 _ fun e n => by pointwise []
  · exact h p hp

theorem block_covers (k : Fin 8) (L : List (View.Piece (Elt Ideal) S8x128x256 .bf16)) (y : S8x128x256.Idx)
    (h : (y 0).val = k.val ∨ ∃ p ∈ L, y ∈ p.1.set) : ∃ p ∈ wexpBlock (plain x2) k L, y ∈ p.1.set := by
  rcases h with h | ⟨p, hp, hy⟩
  · have h1 : (y 1).val < 128 := (y 1).isLt
    have h2 : (y 2).val < 256 := (y 2).isLt
    have hm : ∀ r d : Fin 2, 64 * r.val ≤ (y 1).val → (y 1).val < 64 * r.val + 64 → 128 * d.val ≤ (y 2).val →
        (y 2).val < 128 * d.val + 128 → y ∈ (quarter k r d).set := by
      intro r d a1 a2 a3 a4
      unfold quarter
      rw [Rect.mem_set_unit]
      intro a
      match a with
      | ⟨0, _⟩ => show k.val ≤ (y 0).val ∧ (y 0).val < k.val + 1; omega
      | ⟨1, _⟩ => exact ⟨a1, a2⟩
      | ⟨2, _⟩ => exact ⟨a3, a4⟩
    by_cases c1 : (y 1).val < 64 <;> by_cases c2 : (y 2).val < 128
    · exact ⟨_, List.mem_of_getElem? (i := 3) rfl, hm 0 0 (by simp) (by simpa using c1) (by simp) (by simpa using c2)⟩
    · exact ⟨_, List.mem_of_getElem? (i := 2) rfl, hm 0 1 (by simp) (by simpa using c1) (by show 128 * 1 ≤ _; omega) (by show _ < 128 * 1 + 128; omega)⟩
    · exact ⟨_, List.mem_of_getElem? (i := 1) rfl, hm 1 0 (by show 64 * 1 ≤ _; omega) (by show _ < 64 * 1 + 64; omega) (by simp) (by simpa using c2)⟩
    · exact ⟨_, List.mem_of_getElem? (i := 0) rfl, hm 1 1 (by show 64 * 1 ≤ _; omega) (by show _ < 64 * 1 + 64; omega) (by show 128 * 1 ≤ _; omega) (by show _ < 128 * 1 + 128; omega)⟩
  · refine ⟨p, ?_, hy⟩
    simp only [wexpBlock, List.mem_cons]
    exact Or.inr (Or.inr (Or.inr (Or.inr hp)))

theorem expanded_apply (y : S8x128x256.Idx) : (expanded x2 y : EReal) = diagonal x2 y := by
  refine View.canon_apply_of_pieces (Val := Elt Ideal) (diagonal x2) (wexpPieces (plain x2)) ?_ y ?_
  · unfold wexpPieces
    iterate 8 refine fits_block x2 _ _ ?_
    simp
  · have h : (y 0).val < 8 := (y 0).isLt
    unfold wexpPieces
    have : (y 0).val = 7 ∨ (y 0).val = 6 ∨ (y 0).val = 5 ∨ (y 0).val = 4 ∨ (y 0).val = 3 ∨ (y 0).val = 2 ∨ (y 0).val = 1 ∨ (y 0).val = 0 := by omega
    rcases this with h | h | h | h | h | h | h | h
    all_goals
      repeat first
        | exact block_covers x2 _ _ y (Or.inl h)
        | refine block_covers x2 _ _ y (Or.inr ?_)

theorem expanded_low (k : Fin 8) (e : Fin 64) (n : Fin 256) : (expanded x2 (ix3 k (⟨e.val, by omega⟩ : Fin 128) n) : EReal)
    = if n.val < 128 then x2 (ix2 e (⟨256 * k.val + n.val, by omega⟩ : Fin 2048)) else 0 := by
  rw [expanded_apply]
  unfold diagonal
  refine if_congr (show e.val / 64 = n.val / 128 ↔ _ by omega) ?_ rfl
  refine congrArg (fun i => (x2 i : EReal)) ?_
  funext a
  refine Fin.ext ?_
  match a with
  | ⟨0, _⟩ => show e.val % 64 = e.val; omega
  | ⟨1, _⟩ => rfl

theorem expanded_high (k : Fin 8) (e : Fin 64) (n : Fin 256) : (expanded x2 (ix3 k (⟨64 + e.val, by omega⟩ : Fin 128) n) : EReal)
    = if n.val < 128 then 0 else x2 (ix2 e (⟨256 * k.val + n.val, by omega⟩ : Fin 2048)) := by
  rw [expanded_apply]
  unfold diagonal
  by_cases h : n.val < 128
  · rw [if_pos h]
    exact if_neg (show ¬ (64 + e.val) / 64 = n.val / 128 by omega)
  · rw [if_neg h]
    refine (if_pos (show (64 + e.val) / 64 = n.val / 128 by omega)).trans ?_
    refine congrArg (fun i => (x2 i : EReal)) ?_
    funext a
    refine Fin.ext ?_
    match a with
    | ⟨0, _⟩ => show (64 + e.val) % 64 = e.val; omega
    | ⟨1, _⟩ => rfl

end Cert.Body

end
-- ==== Proof.Inputs.lean ====
/- The blocks that a grid step loads, as elements of the kernel's arguments. -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Body

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![t.val / 2, 0, t.val % 2] ∧ win0_2.index t = ![0, 0]
    ∧ win0_3.index t = ![0, 0] ∧ win0_4.index t = ![0, 0] :=
  (by decide +kernel : ∀ t : Fin grid0.N, win0_0.index t = ![t.val, 0] ∧ win0_1.index t = ![t.val / 2, 0, t.val % 2] ∧ win0_2.index t = ![0, 0]
    ∧ win0_3.index t = ![0, 0] ∧ win0_4.index t = ![0, 0])

theorem lt12 (t : Fin cfg0.N) : t.val < 12 := lt_of_lt_of_eq t.isLt (show cfg0.N = 12 from N_0)

theorem x_at (t : Fin cfg0.N) (n : Fin 1024) (j : Fin 2048) (h : t.val / 2 < 6) :
    (iblk m c 0 t : Vec Ideal S1024x2048 .fp8e4m3) (ix2 n j)
      = (m ((c : Thread nD τ).loc main_arg0) : Vec Ideal S6x2048x2048 .fp8e4m3) (ix3 (⟨t.val / 2, h⟩ : Fin 6) (⟨1024 * (t.val % 2) + n.val, by omega⟩ : Fin 2048) j) := by
  blk_simp [iblk]
  entry_read
  pointwise
  blk_ext [idx t]

theorem xs_at (t : Fin cfg0.N) (b : Fin 16) (n : Fin 1024) (h : t.val / 2 < 6) :
    (iblk m c 1 t : Vec Ideal S1x16x1024 .f32) (ix3 0 b n)
      = (m ((c : Thread nD τ).loc main_arg1) : Vec Ideal S6x2048x16 .f32) (ix3 (⟨t.val / 2, h⟩ : Fin 6) (⟨1024 * (t.val % 2) + n.val, by omega⟩ : Fin 2048) b) := by
  blk_simp [iblk]
  entry_read
  pointwise
  blk_ext [idx t]

theorem wt_at (t : Fin cfg0.N) (e : Fin 64) (j : Fin 2048) :
    (iblk m c 2 t : Vec Ideal S64x2048 .fp8e4m3) (ix2 e j)
      = (m ((c : Thread nD τ).loc main_arg2) : Vec Ideal S2048x64 .fp8e4m3) (ix2 j e) := by
  blk_simp [iblk]
  entry_read
  pointwise
  blk_ext [idx t]

theorem ws_at (t : Fin cfg0.N) (e : Fin 64) :
    (iblk m c 3 t : Vec Ideal S64x1 .f32) (ix2 e 0)
      = (m ((c : Thread nD τ).loc main_arg3) : Vec Ideal S64 .f32) (ix1 e) := by
  blk_simp [iblk]
  entry_read
  pointwise
  blk_ext [idx t]

theorem eb_at (t : Fin cfg0.N) (e : Fin 64) :
    (iblk m c 4 t : Vec Ideal S64x1 .f32) (ix2 e 0)
      = (m ((c : Thread nD τ).loc main_arg4) : Vec Ideal S64 .f32) (ix1 e) := by
  blk_simp [iblk]
  entry_read
  pointwise
  blk_ext [idx t]

end Cert.Body

end
-- ==== Proof.Logits.lean ====
/- The logits of a tile as sums over the 2048 features: block by block with the scale outside, and the same
   with the scale inside. -/
module

public import proofs.«01_k».proof.Proof.Tile

@[expose] public section

set_option maxRecDepth 16384

noncomputable section

namespace Cert.Body

open Idealize.ShloMosaic Idealize.SL.Sem Cert.KernelIdeal Cert.KernelIdeal.Gen

/-- One block of 128 features. -/
def blockDot (W X : Fin 2048 → EReal) (b : Fin 16) : EReal :=
  ∑ c : Fin 128, W ⟨b.val * 128 + c.val, by omega⟩ * X ⟨b.val * 128 + c.val, by omega⟩

/-- The logit of one expert at one token: the scaled codes times the weights. -/
def logit (W X : Fin 2048 → EReal) (S : Fin 16 → EReal) : EReal :=
  ∑ j : Fin 2048, (X j * S ⟨j.val / 128, by omega⟩) * W j

theorem sum_mul_scale {n : ℕ} (f : Fin n → EReal) (s : EReal) (h0 : 0 ≤ s) (h1 : s ≠ ⊤) : (∑ c, f c) * s = ∑ c, f c * s := by
  have : ∀ t : Finset (Fin n), (∑ c ∈ t, f c) * s = ∑ c ∈ t, f c * s := by
    intro t
    induction t using Finset.induction_on with
    | empty => simp
    | insert a t ha ih => rw [Finset.sum_insert ha, Finset.sum_insert ha, EReal.right_distrib_of_nonneg_of_ne_top h0 h1, ih]
  exact this Finset.univ

/-- A finite non-negative scale goes into its block's sum. -/
theorem sum_blockDot (W X : Fin 2048 → EReal) (S : Fin 16 → EReal) (h0 : ∀ b, 0 ≤ S b) (h1 : ∀ b, S b ≠ ⊤) :
    ∑ b : Fin 16, blockDot W X b * S b = logit W X S := by
  unfold logit
  rw [Fin.sum_univ_tiles 16 128 rfl (fun j : Fin 2048 => (X j * S ⟨j.val / 128, by omega⟩) * W j)]
  refine Finset.sum_congr rfl fun b _ => ?_
  unfold blockDot
  rw [sum_mul_scale _ _ (h0 b) (h1 b)]
  refine Finset.sum_congr rfl fun c _ => ?_
  have hb : (⟨(b.val * 128 + c.val) / 128, by omega⟩ : Fin 16) = b := Fin.ext (by show (b.val * 128 + c.val) / 128 = b.val; omega)
  rw [hb, mul_comm (W _), mul_right_comm]

variable (L : Loads Ideal) (q : ℕ) (e : Fin 64) (n : Fin 256) (W X : Fin 2048 → EReal) (S : Fin 16 → EReal)

theorem low_sum (hx : ∀ k : Fin 8, ∀ c : Fin 256, (L.x q k.val (ix2 n c) : EReal) = X ⟨256 * k.val + c.val, by omega⟩)
    (hw : ∀ k : Fin 8, ∀ c : Fin 256, (L.w k.val (ix3 0 (⟨e.val, by omega⟩ : Fin 128) c) : EReal)
      = if c.val < 128 then W ⟨256 * k.val + c.val, by omega⟩ else 0)
    (hs : ∀ b : Fin 16, (L.xs q b.val (ix3 0 0 n) : EReal) = S b) (k : Fin 8) :
    (lowTerm L q k.val (ix2 e n) : EReal) = blockDot W X ⟨2 * k.val, by omega⟩ * S ⟨2 * k.val, by omega⟩ := by
  rw [low_at, part_at, scale_at]
  refine congr (congrArg _ ?_) (hs ⟨2 * k.val, by omega⟩)
  rw [Fin.sum_univ_tiles 2 128 rfl (fun c : Fin 256 => (show EReal from L.w k.val (ix3 0 (⟨e.val, by omega⟩ : Fin 128) c)) * (show EReal from L.x q k.val (ix2 n c))),
    Fin.sum_univ_two]
  have h2 : ∑ t : Fin 128, (fun c : Fin 256 => (show EReal from L.w k.val (ix3 0 (⟨e.val, by omega⟩ : Fin 128) c)) * (show EReal from L.x q k.val (ix2 n c)))
      ⟨(1 : Fin 2).val * 128 + t.val, by show 1 * 128 + t.val < 256; omega⟩ = 0 := by
    refine Finset.sum_eq_zero fun t _ => ?_
    refine (congrArg (fun z : EReal => z * _) ((hw k _).trans (if_neg ?_))).trans (zero_mul _)
    show ¬ (1 * 128 + t.val < 128); omega
  refine (congrArg _ h2).trans ((add_zero _).trans ?_)
  unfold blockDot
  refine Finset.sum_congr rfl fun t _ => ?_
  refine congr (congrArg _ ((hw k _).trans ((if_pos ?_).trans ?_))) ((hx k _).trans ?_)
  · show 0 * 128 + t.val < 128; omega
  · refine congrArg W (Fin.ext ?_); show 256 * k.val + (0 * 128 + t.val) = 2 * k.val * 128 + t.val; omega
  · refine congrArg X (Fin.ext ?_); show 256 * k.val + (0 * 128 + t.val) = 2 * k.val * 128 + t.val; omega

theorem high_sum (hx : ∀ k : Fin 8, ∀ c : Fin 256, (L.x q k.val (ix2 n c) : EReal) = X ⟨256 * k.val + c.val, by omega⟩)
    (hw : ∀ k : Fin 8, ∀ c : Fin 256, (L.w k.val (ix3 0 (⟨64 + e.val, by omega⟩ : Fin 128) c) : EReal)
      = if c.val < 128 then 0 else W ⟨256 * k.val + c.val, by omega⟩)
    (hs : ∀ b : Fin 16, (L.xs q b.val (ix3 0 0 n) : EReal) = S b) (k : Fin 8) :
    (highTerm L q k.val (ix2 e n) : EReal) = blockDot W X ⟨2 * k.val + 1, by omega⟩ * S ⟨2 * k.val + 1, by omega⟩ := by
  rw [high_at, part_at, scale_at]
  refine congr (congrArg _ ?_) (hs ⟨2 * k.val + 1, by omega⟩)
  rw [Fin.sum_univ_tiles 2 128 rfl (fun c : Fin 256 => (show EReal from L.w k.val (ix3 0 (⟨64 + e.val, by omega⟩ : Fin 128) c)) * (show EReal from L.x q k.val (ix2 n c))),
    Fin.sum_univ_two]
  have h2 : ∑ t : Fin 128, (fun c : Fin 256 => (show EReal from L.w k.val (ix3 0 (⟨64 + e.val, by omega⟩ : Fin 128) c)) * (show EReal from L.x q k.val (ix2 n c)))
      ⟨(0 : Fin 2).val * 128 + t.val, by show 0 * 128 + t.val < 256; omega⟩ = 0 := by
    refine Finset.sum_eq_zero fun t _ => ?_
    refine (congrArg (fun z : EReal => z * _) ((hw k _).trans (if_pos ?_))).trans (zero_mul _)
    show (0 * 128 + t.val < 128); omega
  refine (congrArg (fun z : EReal => z + _) h2).trans ((zero_add _).trans ?_)
  unfold blockDot
  refine Finset.sum_congr rfl fun t _ => ?_
  refine congr (congrArg _ ((hw k _).trans ((if_neg ?_).trans ?_))) ((hx k _).trans ?_)
  · show ¬ (1 * 128 + t.val < 128); omega
  · refine congrArg W (Fin.ext ?_); show 256 * k.val + (1 * 128 + t.val) = (2 * k.val + 1) * 128 + t.val; omega
  · refine congrArg X (Fin.ext ?_); show 256 * k.val + (1 * 128 + t.val) = (2 * k.val + 1) * 128 + t.val; omega

theorem logits_zero : (logits L q 0 (ix2 e n) : EReal) = (show EReal from lowTerm L q 0 (ix2 e n)) + (show EReal from highTerm L q 0 (ix2 e n)) := rfl

theorem logits_succ (k : ℕ) : (logits L q (k + 1) (ix2 e n) : EReal)
    = ((show EReal from logits L q k (ix2 e n)) + (show EReal from lowTerm L q (k + 1) (ix2 e n))) + (show EReal from highTerm L q (k + 1) (ix2 e n)) := rfl

/-- The kernel's logits. -/
theorem logits_eq (hx : ∀ k : Fin 8, ∀ c : Fin 256, (L.x q k.val (ix2 n c) : EReal) = X ⟨256 * k.val + c.val, by omega⟩)
    (hl : ∀ k : Fin 8, ∀ c : Fin 256, (L.w k.val (ix3 0 (⟨e.val, by omega⟩ : Fin 128) c) : EReal)
      = if c.val < 128 then W ⟨256 * k.val + c.val, by omega⟩ else 0)
    (hh : ∀ k : Fin 8, ∀ c : Fin 256, (L.w k.val (ix3 0 (⟨64 + e.val, by omega⟩ : Fin 128) c) : EReal)
      = if c.val < 128 then 0 else W ⟨256 * k.val + c.val, by omega⟩)
    (hs : ∀ b : Fin 16, (L.xs q b.val (ix3 0 0 n) : EReal) = S b) (h0 : ∀ b, 0 ≤ S b) (h1 : ∀ b, S b ≠ ⊤) :
    (logits L q 7 (ix2 e n) : EReal) = logit W X S := by
  rw [← sum_blockDot W X S h0 h1]
  have a := low_sum L q e n W X S hx hl hs
  have b := high_sum L q e n W X S hx hh hs
  rw [logits_succ, logits_succ, logits_succ, logits_succ, logits_succ, logits_succ, logits_succ, logits_zero,
    show lowTerm L q 0 (ix2 e n) = _ from a 0, show lowTerm L q (0 + 1) (ix2 e n) = _ from a 1, show lowTerm L q (1 + 1) (ix2 e n) = _ from a 2,
    show lowTerm L q (2 + 1) (ix2 e n) = _ from a 3, show lowTerm L q (3 + 1) (ix2 e n) = _ from a 4, show lowTerm L q (4 + 1) (ix2 e n) = _ from a 5,
    show lowTerm L q (5 + 1) (ix2 e n) = _ from a 6, show lowTerm L q (6 + 1) (ix2 e n) = _ from a 7,
    show highTerm L q 0 (ix2 e n) = _ from b 0, show highTerm L q (0 + 1) (ix2 e n) = _ from b 1, show highTerm L q (1 + 1) (ix2 e n) = _ from b 2,
    show highTerm L q (2 + 1) (ix2 e n) = _ from b 3, show highTerm L q (3 + 1) (ix2 e n) = _ from b 4, show highTerm L q (4 + 1) (ix2 e n) = _ from b 5,
    show highTerm L q (5 + 1) (ix2 e n) = _ from b 6, show highTerm L q (6 + 1) (ix2 e n) = _ from b 7]
  simp only [Fin.sum_univ_succ, Fin.sum_univ_zero, add_zero, add_assoc]
  rfl

end Cert.Body

end
-- ==== Proof.Router.lean ====
/- The router as a function of its arguments: scores, chosen experts and weights of each token. -/
module

public import proofs.«01_k».proof.Proof.Logits
public import proofs.«01_k».proof.Proof.Step

@[expose] public section

noncomputable section

namespace Cert.Router

open Idealize.ShloMosaic Cert.Keys Cert.Body

variable (x : Fin 6 → Fin 2048 → Fin 2048 → EReal) (s : Fin 6 → Fin 2048 → Fin 16 → EReal) (w : Fin 2048 → Fin 64 → EReal)
  (ws β : Fin 64 → EReal) (b : Fin 6) (n : Fin 2048)

/-- Token `n` of batch `b`: the score of expert `e`. -/
def score (e : Fin 64) : EReal := Ideal.logistic (logit (fun j => w j e) (x b n) (s b n) * ws e)

/-- Its `k`-th chosen expert. -/
def chosenId (k : Fin 8) : BitVec 32 := BitVec.ofNat 32 (expert (choiceOf (score x s w ws b n) β) k).val

/-- And that expert's weight. -/
def chosenWeight (k : Fin 8) : EReal := weightOf (score x s w ws b n) β k

end Cert.Router

end
-- ==== Proof.KernelValue.lean ====
/- The kernel's two result arrays as functions of its arguments. -/
module

public import proofs.«01_k».proof.Proof.Expanded
public import proofs.«01_k».proof.Proof.Inputs
public import proofs.«01_k».proof.Proof.Router

@[expose] public section

set_option maxRecDepth 16384

noncomputable section

namespace Cert.Body

open Idealize.ShloMosaic Idealize.ShloMosaic.TcCoe Idealize.SL.Sem Cert.KernelIdeal Cert.KernelIdeal.Gen Cert.Keys
open Idealize.ShloMosaic.Pipeline (Dat)

attribute [local irreducible] expanded outsAt0 iblk

variable (m : (ℓ : Loc nD τ sig) → Buf (Elt Ideal) ℓ) (c : Dev nD)

/-- The arguments by coordinates. -/
def X (b : Fin 6) (n j : Fin 2048) : EReal := (m ((c : Thread nD τ).loc main_arg0) : Vec Ideal S6x2048x2048 .fp8e4m3) (ix3 b n j)
def Sc (b : Fin 6) (n : Fin 2048) (g : Fin 16) : EReal := (m ((c : Thread nD τ).loc main_arg1) : Vec Ideal S6x2048x16 .f32) (ix3 b n g)
def W (j : Fin 2048) (e : Fin 64) : EReal := (m ((c : Thread nD τ).loc main_arg2) : Vec Ideal S2048x64 .fp8e4m3) (ix2 j e)
def Ws (e : Fin 64) : EReal := (m ((c : Thread nD τ).loc main_arg3) : Vec Ideal S64 .f32) (ix1 e)
def Eb (e : Fin 64) : EReal := (m ((c : Thread nD τ).loc main_arg4) : Vec Ideal S64 .f32) (ix1 e)

theorem weights_const (t t' : Fin cfg0.N) : (iblk m c 2 t : Vec Ideal S64x2048 .fp8e4m3) = iblk m c 2 t' := by
  funext i
  rw [show (iblk m c 2 t : Vec Ideal S64x2048 .fp8e4m3) i = (iblk m c 2 t : Vec Ideal S64x2048 .fp8e4m3) (ix2 (i 0) (i 1)) from congrArg _ (eq_ix2 i),
    show (iblk m c 2 t' : Vec Ideal S64x2048 .fp8e4m3) i = (iblk m c 2 t' : Vec Ideal S64x2048 .fp8e4m3) (ix2 (i 0) (i 1)) from congrArg _ (eq_ix2 i)]
  exact (wt_at m c t (i 0) (i 1)).trans (wt_at m c t' (i 0) (i 1)).symm

/-- Every step leaves its own stores, and the expanded weights as the first step stored them. -/
theorem outs (n : ℕ) : ∀ hn : n < cfg0.N, outsAt0 m c n hn
    = (left (idsPieces (loadsAt m c ⟨n, hn⟩) readBack readBack), left (weightsPieces (loadsAt m c ⟨n, hn⟩) readBack readBack readBack),
       expanded (iblk m c 2 ⟨n, hn⟩)) := by
  induction n with
  | zero => intro hn; exact first_outs m c ⟨0, hn⟩ rfl
  | succ n ih =>
    intro hn
    have h12 : n + 1 < 12 := lt12 ⟨n + 1, hn⟩
    have key : ∀ (k : ℕ) (hk : k < cfg0.N), k = n → (outsAt0 m c k hk).2.2 = expanded (iblk m c 2 ⟨n + 1, hn⟩) := by
      rintro k hk rfl
      rw [ih hk]
      exact congrArg expanded (weights_const m c _ _)
    exact later_outs m c ⟨n + 1, hn⟩ (show ¬ (n + 1) % 12 = 0 by omega) (key _ _ (Nat.add_sub_cancel n 1))

section
variable (t : Fin cfg0.N) (h : t.val / 2 < 6) (q : Fin 4) (n : Fin 256)

/-- The token at place `n` of tile `q` of step `t`. -/
abbrev tok : Fin 2048 := ⟨1024 * (t.val % 2) + (256 * q.val + n.val), by omega⟩

theorem loads_x (k : Fin 8) (j : Fin 256) : ((loadsAt m c t).x q.val k.val (ix2 n j) : EReal)
    = X m c ⟨t.val / 2, h⟩ (tok t q n) ⟨256 * k.val + j.val, by omega⟩ := by
  refine Eq.trans ?_ (x_at m c t ⟨256 * q.val + n.val, by omega⟩ ⟨256 * k.val + j.val, by omega⟩ h)
  refine congrArg (fun i => (iblk m c 0 t : Vec Ideal S1024x2048 .fp8e4m3) i) ?_
  have hq : (Fin.ofNat 4 q.val) = q := Fin.ext (Nat.mod_eq_of_lt q.isLt)
  have hk : (Fin.ofNat 8 k.val) = k := Fin.ext (Nat.mod_eq_of_lt k.isLt)
  funext a
  refine Fin.ext ?_
  match a with
  | ⟨0, _⟩ => show 256 * (Fin.ofNat 4 q.val).val + 1 * n.val = 256 * q.val + n.val; rw [hq]; omega
  | ⟨1, _⟩ => show 256 * (Fin.ofNat 8 k.val).val + 1 * j.val = 256 * k.val + j.val; rw [hk]; omega

theorem loads_xs (b : Fin 16) : ((loadsAt m c t).xs q.val b.val (ix3 0 0 n) : EReal) = Sc m c ⟨t.val / 2, h⟩ (tok t q n) b := by
  refine Eq.trans ?_ (xs_at m c t b ⟨256 * q.val + n.val, by omega⟩ h)
  refine congrArg (fun i => (iblk m c 1 t : Vec Ideal S1x16x1024 .f32) i) ?_
  have hq : (Fin.ofNat 4 q.val) = q := Fin.ext (Nat.mod_eq_of_lt q.isLt)
  have hk : (Fin.ofNat 16 b.val) = b := Fin.ext (Nat.mod_eq_of_lt b.isLt)
  funext a
  refine Fin.ext ?_
  match a with
  | ⟨0, _⟩ => rfl
  | ⟨1, _⟩ => show (Fin.ofNat 16 b.val).val + 1 * 0 = b.val; rw [hk]; omega
  | ⟨2, _⟩ => show 256 * (Fin.ofNat 4 q.val).val + 1 * n.val = 256 * q.val + n.val; rw [hq]; omega

theorem loads_w (k : Fin 8) (e : Fin 128) (j : Fin 256) : ((loadsAt m c t).w k.val (ix3 0 e j) : EReal) = expanded (iblk m c 2 t) (ix3 k e j) := by
  have hr : ((loadsAt m c t).w k.val (ix3 0 e j) : EReal)
      = expanded (iblk m c 2 t) ((wRect (Fin.ofNat 8 k.val)).toLoadRect.idx (ix3 0 e j)) := rfl
  rw [hr]
  refine congrArg (expanded (iblk m c 2 t)) ?_
  have hk : (Fin.ofNat 8 k.val) = k := Fin.ext (Nat.mod_eq_of_lt k.isLt)
  funext a
  refine Fin.ext ?_
  match a with
  | ⟨0, _⟩ => show (Fin.ofNat 8 k.val).val + 1 * 0 = k.val; rw [hk]; omega
  | ⟨1, _⟩ => show 0 + 1 * e.val = e.val; omega
  | ⟨2, _⟩ => show 0 + 1 * j.val = j.val; omega

theorem loads_ws (e : Fin 64) : ((loadsAt m c t).ws (ix2 e 0) : EReal) = Ws m c e := by
  refine Eq.trans ?_ (ws_at m c t e)
  refine congrArg (fun i => (iblk m c 3 t : Vec Ideal S64x1 .f32) i) ?_
  funext a
  refine Fin.ext ?_
  match a with
  | ⟨0, _⟩ => show 0 + 1 * e.val = e.val; omega
  | ⟨1, _⟩ => rfl

theorem loads_eb (e : Fin 64) : ((loadsAt m c t).eb (ix2 e 0) : EReal) = Eb m c e := by
  refine Eq.trans ?_ (eb_at m c t e)
  refine congrArg (fun i => (iblk m c 4 t : Vec Ideal S64x1 .f32) i) ?_
  funext a
  refine Fin.ext ?_
  match a with
  | ⟨0, _⟩ => show 0 + 1 * e.val = e.val; omega
  | ⟨1, _⟩ => rfl

/-- A step's scores are the router's. -/
theorem scores_token (h0 : ∀ b n g, 0 ≤ Sc m c b n g) (h1 : ∀ b n g, Sc m c b n g ≠ ⊤) (e : Fin 64) :
    (scores (loadsAt m c t) q.val (ix2 e n) : EReal)
      = Router.score (X m c) (Sc m c) (W m c) (Ws m c) ⟨t.val / 2, h⟩ (tok t q n) e := by
  refine (scores_at _ _ e n).trans ?_
  unfold Router.score
  refine congrArg Ideal.logistic (congr (congrArg _ ?_) (loads_ws m c t e))
  refine logits_eq (loadsAt m c t) q.val e n (fun j => W m c j e) _ _ (loads_x m c t h q n) ?_ ?_ (loads_xs m c t h q n) (h0 _ _) (h1 _ _)
  · intro k j
    refine (loads_w m c t k _ j).trans ((expanded_low _ k e j).trans ?_)
    exact if_congr Iff.rfl (wt_at m c t e _) rfl
  · intro k j
    refine (loads_w m c t k _ j).trans ((expanded_high _ k e j).trans ?_)
    exact if_congr Iff.rfl rfl (wt_at m c t e _)

end

variable (h0 : ∀ b n g, 0 ≤ Sc m c b n g) (h1 : ∀ b n g, Sc m c b n g ≠ ⊤)
include h0 h1

theorem ids_array (b : Fin 6) (k : Fin 8) (n : Fin 2048) :
    (Value.G5 m c : Vec Ideal S6x8x2048 .i32) (ix3 b k n) = Router.chosenId (X m c) (Sc m c) (W m c) (Ws m c) (Eb m c) b n k := by
  have hN : cfg0.N = 12 := N_0
  have hp : Value.pt5Of (ix3 b k n) = 2 * b.val + n.val / 1024 := by
    show 2 * (b.val / 1 - 0) + 2 * (k.val / 8 - 0) + 1 * (n.val / 1024 - 0) = _
    omega
  have ht : Value.pt5Of (ix3 b k n) < cfg0.N := by omega
  unfold Value.G5
  rw [dif_pos ht, ← Value.outsAt0_sweep m c _ ht, outs m c _ ht]
  obtain ⟨t, htt⟩ : ∃ t : Fin cfg0.N, t = ⟨_, ht⟩ := ⟨_, rfl⟩
  rw [← htt]
  have htv : t.val = 2 * b.val + n.val / 1024 := by rw [htt]; exact hp
  have hb : t.val / 2 < 6 := by omega
  refine (ids_at (loadsAt m c t) (Router.score (X m c) (Sc m c) (W m c) (Ws m c) b n) (Eb m c) ⟨n.val % 1024 / 128, by omega⟩ ⟨n.val % 128, by omega⟩
    (fun e => ?_) (loads_eb m c t) k _ ?_ ?_)
  · refine (scores_token m c t hb ⟨n.val % 1024 / 128 / 2, by omega⟩ ⟨128 * (n.val % 1024 / 128 % 2) + n.val % 128, by omega⟩ h0 h1 e).trans ?_
    congr 1
    · exact Fin.ext (by show t.val / 2 = b.val; omega)
    · exact Fin.ext (by show 1024 * (t.val % 2) + (256 * (n.val % 1024 / 128 / 2) + (128 * (n.val % 1024 / 128 % 2) + n.val % 128)) = n.val; omega)
  · show k.val % 8 = k.val; omega
  · show n.val % 1024 = 128 * (n.val % 1024 / 128) + n.val % 128; omega

theorem weights_array (b : Fin 6) (k : Fin 8) (n : Fin 2048) :
    ((Value.G6 m c : Vec Ideal S6x8x2048 .f32) (ix3 b k n) : EReal) = Router.chosenWeight (X m c) (Sc m c) (W m c) (Ws m c) (Eb m c) b n k := by
  have hN : cfg0.N = 12 := N_0
  have hp : Value.pt6Of (ix3 b k n) = 2 * b.val + n.val / 1024 := by
    show 2 * (b.val / 1 - 0) + 2 * (k.val / 8 - 0) + 1 * (n.val / 1024 - 0) = _
    omega
  have ht : Value.pt6Of (ix3 b k n) < cfg0.N := by omega
  unfold Value.G6
  rw [dif_pos ht, ← Value.outsAt0_sweep m c _ ht, outs m c _ ht]
  obtain ⟨t, htt⟩ : ∃ t : Fin cfg0.N, t = ⟨_, ht⟩ := ⟨_, rfl⟩
  rw [← htt]
  have htv : t.val = 2 * b.val + n.val / 1024 := by rw [htt]; exact hp
  have hb : t.val / 2 < 6 := by omega
  refine (weights_at (loadsAt m c t) (Router.score (X m c) (Sc m c) (W m c) (Ws m c) b n) (Eb m c) ⟨n.val % 1024 / 128, by omega⟩ ⟨n.val % 128, by omega⟩
    (fun e => ?_) (loads_eb m c t) k _ ?_ ?_)
  · refine (scores_token m c t hb ⟨n.val % 1024 / 128 / 2, by omega⟩ ⟨128 * (n.val % 1024 / 128 % 2) + n.val % 128, by omega⟩ h0 h1 e).trans ?_
    congr 1
    · exact Fin.ext (by show t.val / 2 = b.val; omega)
    · exact Fin.ext (by show 1024 * (t.val % 2) + (256 * (n.val % 1024 / 128 / 2) + (128 * (n.val % 1024 / 128 % 2) + n.val % 128)) = n.val; omega)
  · show k.val % 8 = k.val; omega
  · show n.val % 1024 = 128 * (n.val % 1024 / 128) + n.val % 128; omega

end Cert.Body

end
-- ==== Proof.Stages.lean ====
/- What the reference's lines of host operations compute, cut into the stages of the problem: the scores of the experts,
   the choices, the groups' scores, the groups kept, the masked choices, the ids chosen, the scores picked and the weights. -/
module

public import proofs.«01_k».proof.Proof.Gen.ReferenceIdeal.Frame
public import Idealize.ShloMosaic.Lib.Pipeline.ValueKit
public import Idealize.ShloMosaic.Lib.Claim
public import Idealize.ShloMosaic.Lib.StableHlo.RunRead

@[expose] public section

set_option maxRecDepth 65536

noncomputable section

namespace Cert.Ref

open Idealize.ShloMosaic Idealize.ShloMosaic.TcCoe Idealize.SL.Sem Cert.ReferenceIdeal Cert.ReferenceIdeal.Gen

/-- The scores: the widened codes times their scale, contracted with the widened weights, times the experts' scale, through
    the sigmoid. -/
def scoresOf (xw : FVec Ideal S6x2048x2048 .bf16) (ww : FVec Ideal S2048x64 .bf16) (xs : FVec Ideal S6x2048x16 .f32)
    (ws : FVec Ideal S64 .f32) : FVec Ideal S6x2048x64 .f32 :=
  Host.divf (broadcastInDim S6x2048x64 ![] bcast_S_S6x2048x64 (constant (F := Ideal) S_ .f32 0x3F800000#32))
    (addf (broadcastInDim S6x2048x64 ![] bcast_S_S6x2048x64 (constant (F := Ideal) S_ .f32 0x3F800000#32))
      (Host.exp (Host.negf (mulf
        (Host.dotGeneral (φ₂ := .f32) dot_S6x2048x2048_S2048x64_S6x2048x64_2_0_01_1_n_n none
          (shapeCast S6x2048x2048
            (mulf (shapeCast S6x2048x16x128 xw shapeCasts_S6x2048x2048_S6x2048x16x128)
              (broadcastInDim S6x2048x16x128 ![0, 1, 2, 3] bcast_S6x2048x16x1_S6x2048x16x128_0_1_2_3
                (broadcastInDim S6x2048x16x1 ![0, 1, 2] bcast_S6x2048x16_S6x2048x16x1_0_1_2
                  (truncf .bf16 xs bitsLt_bf16_f32))))
            shapeCasts_S6x2048x16x128_S6x2048x2048) ww)
        (broadcastInDim S6x2048x64 ![0, 1, 2] bcast_S1x1x64_S6x2048x64_0_1_2
          (broadcastInDim S1x1x64 ![2] bcast_S64_S1x1x64_2 ws))))))

/-- The choices: the scores plus the experts' bias. -/
def choicesOf (sc : FVec Ideal S6x2048x64 .f32) (eb : FVec Ideal S64 .f32) : FVec Ideal S6x2048x64 .f32 :=
  addf sc (broadcastInDim S6x2048x64 ![0, 1, 2] bcast_S1x1x64_S6x2048x64_0_1_2
    (broadcastInDim S1x1x64 ![2] bcast_S64_S1x1x64_2 eb))

/-- A group's score: the sum of its two greatest choices. -/
def groupsOf (ch : FVec Ideal S6x2048x64 .f32) : FVec Ideal S6x2048x8 .f32 :=
  Host.reduceAdd (Host.topK (α := Ideal .f32) S6x2048x8x2 3 (FloatOps.cmpfTotal (φ := .f32) .gt) (shapeCast S6x2048x8x8 ch shapeCasts_S6x2048x64_S6x2048x8x8)
      sliceFits_S6x2048x8x8_S6x2048x8x2).1
    (constant (F := Ideal) S_ .f32 0x00000000#32) reducesTo_S6x2048x8x2_S6x2048x8_d3 h_S_

/-- The four groups of the greatest scores. -/
def keptIds (gs : FVec Ideal S6x2048x8 .f32) : IVec S6x2048x4 32 :=
  (Host.topK (α := Ideal .f32) S6x2048x4 2 (FloatOps.cmpfTotal (φ := .f32) .gt) gs sliceFits_S6x2048x8_S6x2048x4).2

/-- The marks of the groups: for each of the four ids, `1` at the group it names. -/
def marksOf (gi : IVec S6x2048x4 32) : IVec S6x2048x4x8 32 :=
  extui 32 (cmpi .eq
    (broadcastInDim S6x2048x4x8 ![0, 1, 2, 3] bcast_S6x2048x4x1_S6x2048x4x8_0_1_2_3
      (broadcastInDim S6x2048x4x1 ![0, 1, 2] bcast_S6x2048x4_S6x2048x4x1_0_1_2 gi))
    (broadcastInDim S6x2048x4x8 ![0, 1, 2, 3] bcast_S1x1x1x8_S6x2048x4x8_0_1_2_3 (iotaInDim S1x1x1x8 32 3))) natLt_1_32

/-- Which groups are kept: those with a mark. -/
def keptOf (marks : IVec S6x2048x4x8 32) : IVec S6x2048x8 1 :=
  cmpi .sgt (Host.reduce IntOp.addi marks (constantI S_ 32 0#32) reducesTo_S6x2048x4x8_S6x2048x8_d2 h_S_)
    (broadcastInDim S6x2048x8 ![] bcast_S_S6x2048x8 (constantI S_ 32 0#32))

/-- A group's bit, at each of its experts. -/
def spreadOf (kept : IVec S6x2048x8 1) : IVec S6x2048x64 1 :=
  shapeCast S6x2048x64 (broadcastInDim S6x2048x8x8 ![0, 1, 2] bcast_S6x2048x8_S6x2048x8x8_0_1_2 kept)
    shapeCasts_S6x2048x8x8_S6x2048x64

/-- The masked choices: `-∞` outside the groups kept. -/
def maskedOf (gi : IVec S6x2048x4 32) (ch : FVec Ideal S6x2048x64 .f32) : FVec Ideal S6x2048x64 .f32 :=
  select (spreadOf (keptOf (marksOf gi))) ch
    (broadcastInDim S6x2048x64 ![] bcast_S_S6x2048x64 (constant (F := Ideal) S_ .f32 0xFF800000#32))

/-- The ids of the eight greatest masked choices. -/
def idsOf (mk : FVec Ideal S6x2048x64 .f32) : IVec S6x2048x8 32 :=
  (Host.topK (α := Ideal .f32) S6x2048x8 2 (FloatOps.cmpfTotal (φ := .f32) .gt) mk sliceFits_S6x2048x64_S6x2048x8).2

/-- The positions at which the scores are read: a negative id counted from the end. -/
def atOf (ids : IVec S6x2048x8 32) : IVec S6x2048x8x1 32 :=
  shapeCast S6x2048x8x1
    (select (cmpi .slt ids (broadcastInDim S6x2048x8 ![] bcast_S_S6x2048x8 (constantI S_ 32 0#32)))
      (addi ids (broadcastInDim S6x2048x8 ![] bcast_S_S6x2048x8 (constantI S_ 32 64#32))) ids)
    shapeCasts_S6x2048x8_S6x2048x8x1

/-- Which positions lie inside the array. -/
def insideOf (at' : IVec S6x2048x8x1 32) : IVec S6x2048x8 1 :=
  Host.reduce IntOp.andi
    (andi (cmpi .sge at' (broadcastInDim S6x2048x8x1 ![] bcast_S_S6x2048x8x1 (constantI S_ 32 0#32)))
      (cmpi .sle at' (broadcastInDim S6x2048x8x1 ![0, 1, 2, 3] bcast_S1x1x1x1_S6x2048x8x1_0_1_2_3
        (broadcastInDim S1x1x1x1 ![3] bcast_S1_S1x1x1x1_3 (constantI S1 32 63#32)))))
    (constantI S_ 1 1#1) reducesTo_S6x2048x8x1_S6x2048x8_d3 h_S_

/-- The scores read at the positions. -/
def pickedAt (sc : FVec Ideal S6x2048x64 .f32) (at' : IVec S6x2048x8x1 32) : FVec Ideal S6x2048x8 .f32 :=
  select (insideOf at') (Host.gather gather_S6x2048x64_S6x2048x8x1_S6x2048x8_n_2_01_01_2_3_111 sc at')
    (broadcastInDim S6x2048x8 ![] bcast_S_S6x2048x8 (constant (F := Ideal) S_ .f32 0x7FC00000#32))

/-- The weights: each picked score over the sum of the eight, times the factor. -/
def weightsOf (pk : FVec Ideal S6x2048x8 .f32) : FVec Ideal S6x2048x8 .f32 :=
  mulf (Host.divf pk (broadcastInDim S6x2048x8 ![0, 1, 2] bcast_S6x2048x1_S6x2048x8_0_1_2
      (broadcastInDim S6x2048x1 ![0, 1] bcast_S6x2048_S6x2048x1_0_1
        (Host.reduceAdd pk (constant (F := Ideal) S_ .f32 0x00000000#32) reducesTo_S6x2048x8_S6x2048_d2 h_S_))))
    (broadcastInDim S6x2048x8 ![] bcast_S_S6x2048x8 (constant (F := Ideal) S_ .f32 0x40200000#32))

/-- The ids the reference chooses, of its scores and its choices. -/
def chosen (ch : FVec Ideal S6x2048x64 .f32) : IVec S6x2048x8 32 :=
  idsOf (maskedOf (keptIds (groupsOf ch)) ch)

variable (V : Valuation τ sig (Elt Ideal))

/-- The first lines leave the scores, … -/
theorem scores_read : StableHlo.after hostOps1 V (Proc.devRef .tc main_v16)
      = scoresOf (V (Proc.devRef .tc main_v0_0)) (V (Proc.devRef .tc main_v0_1)) (V (Proc.devRef .tc main_arg1))
          (V (Proc.devRef .tc main_arg3)) := by
  after_reads_simp
  rfl

/-- … the choices … -/
theorem choices_read : StableHlo.after hostOps1 V (Proc.devRef .tc main_v19)
      = choicesOf (scoresOf (V (Proc.devRef .tc main_v0_0)) (V (Proc.devRef .tc main_v0_1)) (V (Proc.devRef .tc main_arg1))
          (V (Proc.devRef .tc main_arg3))) (V (Proc.devRef .tc main_arg4)) := by
  after_reads_simp
  rfl

/-- … and the groups kept. -/
theorem keptIds_read : StableHlo.after hostOps1 V (Proc.devRef .tc main_indices_3)
      = keptIds (groupsOf (StableHlo.after hostOps1 V (Proc.devRef .tc main_v19))) := by
  after_reads_simp
  rfl

/-- The next lines leave the marks of the groups, … -/
theorem marks_read : StableHlo.after hostOps1_1 V (Proc.devRef .tc main_v22) = marksOf (V (Proc.devRef .tc main_indices_3)) := by
  after_reads_simp
  rfl

/-- … which groups are kept, spread over the experts, … -/
theorem spread_read : StableHlo.after hostOps1_2 V (Proc.devRef .tc main_v27) = spreadOf (keptOf (V (Proc.devRef .tc main_v22))) := by
  after_reads_simp
  rfl

theorem bottom_read : StableHlo.after hostOps1_2 V (Proc.devRef .tc main_cst_5) = (constant (F := Ideal) S_ .f32 0xFF800000#32) := by
  after_reads_simp

/-- … the masked choices … -/
theorem masked_read : StableHlo.after hostOps1_3 V (Proc.devRef .tc main_v28)
      = select (V (Proc.devRef .tc main_v27)) (V (Proc.devRef .tc main_v19))
          (broadcastInDim S6x2048x64 ![] bcast_S_S6x2048x64 (V (Proc.devRef .tc main_cst_5))) := by
  after_reads_simp
  rfl

/-- … and their eight greatest. -/
theorem ids_read : StableHlo.after hostOps1_4 V (Proc.devRef .tc main_indices_7) = idsOf (V (Proc.devRef .tc main_v28)) := by
  after_reads_simp
  rfl

section
attribute [local irreducible] Host.gather Host.reduce select shapeCast broadcastInDim cmpi andi addi

/-- The scores picked; -/
theorem picked_read : StableHlo.after hostOps1_5 V (Proc.devRef .tc main_v29)
      = pickedAt (V (Proc.devRef .tc main_v16)) (atOf (V (Proc.devRef .tc main_indices_7))) := by
  after_reads_simp
  unfold pickedAt insideOf atOf
  rfl

end

/-- the ids as they were; -/
theorem ids_kept : StableHlo.after hostOps1_5 V (Proc.devRef .tc main_indices_7) = V (Proc.devRef .tc main_indices_7) := by
  after_reads_simp

/-- and the two results. -/
theorem ids_result : StableHlo.after hostOps1_6 V (Proc.devRef .tc main_v36)
      = transpose S6x8x2048 [0, 2, 1] (V (Proc.devRef .tc main_indices_7) : IVec S6x2048x8 32)
          transposes_S6x2048x8_S6x8x2048_0_2_1 := by
  after_reads_simp

theorem weights_result : StableHlo.after hostOps1_6 V (Proc.devRef .tc main_v37)
      = transpose S6x8x2048 [0, 2, 1] (weightsOf (V (Proc.devRef .tc main_v29)))
          transposes_S6x2048x8_S6x8x2048_0_2_1 := by
  after_reads_simp
  rfl

theorem tail_eq : StableHlo.after [hostOps1, hostOps1_1, hostOps1_2, hostOps1_3, hostOps1_4, hostOps1_5, hostOps1_6].flatten V
    = StableHlo.after hostOps1_6 (StableHlo.after hostOps1_5 (StableHlo.after hostOps1_4 (StableHlo.after hostOps1_3
        (StableHlo.after hostOps1_2 (StableHlo.after hostOps1_1 (StableHlo.after hostOps1 V)))))) := by
  simp only [List.flatten_cons, List.flatten_nil, List.append_nil, StableHlo.after_append]

/-- A buffer some lines do not write keeps its contents. -/
theorem keep1 (r : Ref sig .tc) (hr : r ∉ hostOps1_1_W) :
    StableHlo.after hostOps1_1 V (Proc.devRef .tc r) = V (Proc.devRef .tc r) :=
  StableHlo.after_of_writes_sub hostOps1_1 V hostOps1_1_writes hr
theorem keep2 (r : Ref sig .tc) (hr : r ∉ hostOps1_2_W) :
    StableHlo.after hostOps1_2 V (Proc.devRef .tc r) = V (Proc.devRef .tc r) :=
  StableHlo.after_of_writes_sub hostOps1_2 V hostOps1_2_writes hr
theorem keep3 (r : Ref sig .tc) (hr : r ∉ hostOps1_3_W) :
    StableHlo.after hostOps1_3 V (Proc.devRef .tc r) = V (Proc.devRef .tc r) :=
  StableHlo.after_of_writes_sub hostOps1_3 V hostOps1_3_writes hr
theorem keep4 (r : Ref sig .tc) (hr : r ∉ hostOps1_4_W) :
    StableHlo.after hostOps1_4 V (Proc.devRef .tc r) = V (Proc.devRef .tc r) :=
  StableHlo.after_of_writes_sub hostOps1_4 V hostOps1_4_writes hr

/-- The ids, as the whole tail leaves them before the last lines. -/
theorem ids_before : StableHlo.after hostOps1_4 (StableHlo.after hostOps1_3 (StableHlo.after hostOps1_2 (StableHlo.after hostOps1_1
      (StableHlo.after hostOps1 V)))) (Proc.devRef .tc main_indices_7)
    = chosen (StableHlo.after hostOps1 V (Proc.devRef .tc main_v19)) := by
  rw [ids_read, masked_read, spread_read, bottom_read, marks_read, keptIds_read, keep2 _ main_v19 (by decide), keep1 _ main_v19 (by decide)]
  rfl

theorem scores_before : StableHlo.after hostOps1_4 (StableHlo.after hostOps1_3 (StableHlo.after hostOps1_2 (StableHlo.after hostOps1_1
      (StableHlo.after hostOps1 V)))) (Proc.devRef .tc main_v16) = StableHlo.after hostOps1 V (Proc.devRef .tc main_v16) := by
  rw [keep4 _ main_v16 (by decide), keep3 _ main_v16 (by decide), keep2 _ main_v16 (by decide), keep1 _ main_v16 (by decide)]

/-- The reference's scores, of what the region and the arguments hold. -/
abbrev scoresIn : FVec Ideal S6x2048x64 .f32 :=
  scoresOf (V (Proc.devRef .tc main_v0_0)) (V (Proc.devRef .tc main_v0_1)) (V (Proc.devRef .tc main_arg1)) (V (Proc.devRef .tc main_arg3))

abbrev choicesIn : FVec Ideal S6x2048x64 .f32 := choicesOf (scoresIn V) (V (Proc.devRef .tc main_arg4))

/-- The first result: the ids, transposed. -/
theorem tail_ids : StableHlo.after [hostOps1, hostOps1_1, hostOps1_2, hostOps1_3, hostOps1_4, hostOps1_5, hostOps1_6].flatten V
      (Proc.devRef .tc main_v36)
    = transpose S6x8x2048 [0, 2, 1] (chosen (choicesIn V)) transposes_S6x2048x8_S6x8x2048_0_2_1 := by
  rw [tail_eq, ids_result, ids_kept, ids_before, choices_read]

/-- The second result: the weights, transposed. -/
theorem tail_weights : StableHlo.after [hostOps1, hostOps1_1, hostOps1_2, hostOps1_3, hostOps1_4, hostOps1_5, hostOps1_6].flatten V
      (Proc.devRef .tc main_v37)
    = transpose S6x8x2048 [0, 2, 1] (weightsOf (pickedAt (scoresIn V) (atOf (chosen (choicesIn V)))))
        transposes_S6x2048x8_S6x8x2048_0_2_1 := by
  rw [tail_eq, weights_result, picked_read, ids_before, scores_before, choices_read, scores_read]

end Cert.Ref

end
-- ==== Proof.Gather.lean ====
/- The reference reads the scores at the ids by a gather along the experts: at an id below 64, the score of that expert. -/
module

public import proofs.«01_k».proof.Proof.Stages
public import Idealize.ShloMosaic.Lib.Pointwise

@[expose] public section

set_option maxRecDepth 16384

noncomputable section

namespace Cert.Ref

open Idealize.ShloMosaic Idealize.ShloMosaic.TcCoe Idealize.SL.Sem Cert.ReferenceIdeal Cert.ReferenceIdeal.Gen

/-- The gather's dimension numbers. -/
abbrev along : GatherDims S6x2048x64 S6x2048x8x1 S6x2048x8 := gather_S6x2048x64_S6x2048x8x1_S6x2048x8_n_2_01_01_2_3_111

variable (sc : FVec Ideal S6x2048x64 .f32) (p : IVec S6x2048x8x1 32) (b : Fin 6) (n : Fin 2048) (k : Fin 8)

theorem coord_0 : along.batchCoord (ix3 b n k) 0 = b.val := by
  rfl
theorem coord_1 : along.batchCoord (ix3 b n k) 1 = n.val := by
  rfl

theorem coord_2 : along.batchCoord (ix3 b n k) 2 = 0 := along.batchCoord_eq_zero _ _ (by decide)

theorem off_a (a : Fin 3) : along.offCoord (ix3 b n k) a = 0 := along.offCoord_eq_zero _ _ (by revert a; decide)

theorem start_0 : along.start (ix3 b n k) p 0 = 0 := along.start_batching _ _ _ (by decide)
theorem start_1 : along.start (ix3 b n k) p 1 = 0 := along.start_batching _ _ _ (by decide)

theorem siIdx_at : along.siIdx (ix3 b n k) ⟨0, by decide⟩ = ix4 b n k 0 := by
  funext a
  fin_cases a <;> rfl

theorem start_2 : along.start (ix3 b n k) p 2 = min (p (ix4 b n k 0)).toInt.toNat 63 := by
  unfold GatherDims.start
  rw [dif_pos (by decide)]
  rw [← siIdx_at]
  rfl

/-- The score read: at the position named, if it lies inside the array. -/
theorem gather_at (e : Fin 64) (h : p (ix4 b n k 0) = BitVec.ofNat 32 e.val) :
    Host.gather along sc p (ix3 b n k) = sc (ix3 b n e) := by
  have he : (BitVec.ofNat 32 e.val).toInt.toNat = e.val := (by decide : ∀ e : Fin 64, (BitVec.ofNat 32 e.val).toInt.toNat = e.val) e
  unfold Host.gather GatherDims.operandIdx
  congr 1
  funext a
  apply Fin.ext
  dsimp only
  rw [off_a]
  fin_cases a
  · exact (congrArg₂ (· + · + 0) (start_0 p b n k) (coord_0 b n k)).trans (by simp [ix3])
  · exact (congrArg₂ (· + · + 0) (start_1 p b n k) (coord_1 b n k)).trans (by simp [ix3])
  · refine (congrArg₂ (· + · + 0) (start_2 p b n k) (coord_2 b n k)).trans ?_
    rw [h, he]
    simp [ix3]
    omega

end Cert.Ref

end
-- ==== Proof.TopK.lean ====
/- The host's top-k along an axis, read as a list: the position it puts at place `k` is that of the `k`-th greatest entry,
   entries ordered by value and, among equal values, by position. -/
module

public import proofs.«01_k».proof.Proof.Keys
public import proofs.«01_k».proof.ReferenceIdeal
public import Idealize.ShloMosaic.Lib.SortFacts
public import Idealize.ShloMosaic.Lib.Pipeline.ValueKit
public import Idealize.ShloMosaic.Lib.Pointwise

@[expose] public section

noncomputable section

namespace Cert.Keys

open Idealize.ShloMosaic Idealize.ShloMosaic.SortNet Cert.ReferenceIdeal

/-- Two relations that agree on each later element against each earlier one sort a list alike: the stable insertion sort
    compares no others. -/
theorem stableSort_congr_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The entries of a fiber: each value with its position. -/
def entries {n : ℕ} (v : Fin n → EReal) (k : Fin n) : Key := key (v k) (k.val : ℤ)

theorem entries_injective {n : ℕ} (v : Fin n → EReal) : Function.Injective (entries v) := fun a b h => by
  have := congrArg num h
  simp only [entries, num_key, Int.natCast_inj] at this
  exact Fin.ext this

/-- The stable sort by value is the sort of the entries. -/
theorem sortedFrom_value {n : ℕ} (v : Fin n → EReal) :
    sortedFrom (fun k k' => (FloatOps.cmpfTotal (F := Ideal) (φ := .f32) .gt (v k) (v k') == 1#1)) = sortedFrom (greaterFirst (entries v)) := by
  have e : sortPositions n (fun k k' => (FloatOps.cmpfTotal (F := Ideal) (φ := .f32) .gt (v k) (v k') == 1#1))
      = sortPositions n (greaterFirst (entries v)) := by
    refine stableSort_congr_later _ _ _ ?_
    refine (List.pairwise_lt_finRange n).imp fun {a b} hab => ?_
    rw [Bool.eq_iff_iff, beq_iff_eq]
    unfold greaterFirst entries
    rw [decide_eq_true_eq, key_lt]
    have hab' : (a.val : ℤ) < b.val := by exact_mod_cast hab
    have hgt : FloatOps.cmpfTotal (F := Ideal) (φ := .f32) .gt (v b) (v a) = 1#1 ↔ v a < v b := by
      show BitVec.ofBool (decide (v a < v b)) = 1#1 ↔ _
      by_cases h : v a < v b <;> simp [h]
    rw [hgt]
    constructor
    · exact fun h => Or.inl h
    · rintro (h | ⟨_, h⟩)
      · exact h
      · omega
  funext k
  unfold sortedFrom
  rw [List.get_of_eq e]
  rfl

/-- The position a top-k puts at place `k`. -/
def place {n : ℕ} (v : Fin n → EReal) (k : Fin n) : Fin n := sortedFrom (greaterFirst (entries v)) k

theorem place_spec {n : ℕ} (v : Fin n → EReal) (k : Fin n) (K : ℕ) (hk : k.val < K) :
    (topList K (List.ofFn (entries v)))[k.val]? = some (entries v (place v k)) :=
  (entry_sortedFrom_eq_topList (entries v) (entries_injective v) K k hk).symm

theorem along3 {n : ℕ} (b : Fin 6) (t : Fin 2048) (k : Fin n) (hd : 2 < (⟨3, ![6, 2048, n]⟩ : Shape).rank)
    (e : Fin ((⟨3, ![6, 2048, n]⟩ : Shape).size ⟨2, hd⟩)) :
    (ix3 b t k : (⟨3, ![6, 2048, n]⟩ : Shape).Idx).along ⟨2, hd⟩ e = ix3 b t e := by
  funext a
  unfold Shape.Idx.along
  fin_cases a
  · exact Function.update_of_ne (fun h => by simp [Fin.ext_iff] at h) ..
  · exact Function.update_of_ne (fun h => by simp [Fin.ext_iff] at h) ..
  · exact Function.update_self ..

/-- The ids a top-k along the last of three axes gives. -/
theorem topK3 (n K : ℕ) (hK : K ≤ n) (x : FVec Ideal ⟨3, ![6, 2048, n]⟩ .f32)
    (h : (⟨3, ![6, 2048, n]⟩ : Shape).Slices (fun _ => 0) ⟨3, ![6, 2048, K]⟩) (b : Fin 6) (t : Fin 2048) (k : Fin K) :
    (Host.topK (α := Ideal .f32) ⟨3, ![6, 2048, K]⟩ 2 (FloatOps.cmpfTotal (φ := .f32) .gt) x h).2 (ix3 b t k)
      = BitVec.ofNat 32 (place (fun e => (x (ix3 b t e) : EReal)) (k.castLE hK)).val := by
  have hd : 2 < (⟨3, ![6, 2048, n]⟩ : Shape).rank := by simp
  unfold Host.topK
  dsimp only
  rw [extractStridedSlice_apply _ _ h (ix3 b t k) (ix3 b t (k.castLE hK)) (fun a => by fin_cases a <;> simp [ix3])]
  unfold Host.sort2
  rw [dif_pos hd]
  dsimp only
  rw [dif_pos (show 2 < 3 by decide)]
  unfold iotaInDim place
  rw [← sortedFrom_value]
  simp only [along3]
  rfl

theorem along4 {n : ℕ} (b : Fin 6) (t : Fin 2048) (g : Fin 8) (k : Fin n) (hd : 3 < (⟨4, ![6, 2048, 8, n]⟩ : Shape).rank)
    (e : Fin ((⟨4, ![6, 2048, 8, n]⟩ : Shape).size ⟨3, hd⟩)) :
    (ix4 b t g k : (⟨4, ![6, 2048, 8, n]⟩ : Shape).Idx).along ⟨3, hd⟩ e = ix4 b t g e := by
  funext a
  unfold Shape.Idx.along
  fin_cases a
  · exact Function.update_of_ne (fun h => by simp [Fin.ext_iff] at h) ..
  · exact Function.update_of_ne (fun h => by simp [Fin.ext_iff] at h) ..
  · exact Function.update_of_ne (fun h => by simp [Fin.ext_iff] at h) ..
  · exact Function.update_self ..

/-- The values a top-k along the last of four axes gives. -/
theorem topK4 (n K : ℕ) (hK : K ≤ n) (x : FVec Ideal ⟨4, ![6, 2048, 8, n]⟩ .f32)
    (h : (⟨4, ![6, 2048, 8, n]⟩ : Shape).Slices (fun _ => 0) ⟨4, ![6, 2048, 8, K]⟩) (b : Fin 6) (t : Fin 2048) (g : Fin 8) (k : Fin K) :
    (Host.topK (α := Ideal .f32) ⟨4, ![6, 2048, 8, K]⟩ 3 (FloatOps.cmpfTotal (φ := .f32) .gt) x h).1 (ix4 b t g k)
      = x (ix4 b t g (place (fun e => (x (ix4 b t g e) : EReal)) (k.castLE hK))) := by
  have hd : 3 < (⟨4, ![6, 2048, 8, n]⟩ : Shape).rank := by simp
  unfold Host.topK
  dsimp only
  rw [extractStridedSlice_apply _ _ h (ix4 b t g k) (ix4 b t g (k.castLE hK)) (fun a => by fin_cases a <;> simp [ix4])]
  unfold Host.sort2
  rw [dif_pos hd]
  dsimp only
  unfold place
  rw [← sortedFrom_value]
  simp only [along4]
  rfl

end Cert.Keys

end
-- ==== Proof.ReferenceValue.lean ====
/- The stages of the reference, element by element: its scores are the router's, its groups' scores, kept groups and masked
   choices those of Groups.lean, and its ids and weights the router's. -/
module

public import proofs.«01_k».proof.Proof.Gather
public import proofs.«01_k».proof.Proof.Router
public import proofs.«01_k».proof.Proof.TopK

@[expose] public section

set_option maxRecDepth 16384

noncomputable section

namespace Cert.Ref

open Idealize.ShloMosaic Idealize.ShloMosaic.TcCoe Idealize.SL.Sem Cert.ReferenceIdeal Cert.ReferenceIdeal.Gen Cert.Keys
open Idealize.ShloMosaic.SortNet

variable (b : Fin 6) (n : Fin 2048)

/-- The reference's scores are the router's. -/
theorem score_at (xw : FVec Ideal S6x2048x2048 .bf16) (ww : FVec Ideal S2048x64 .bf16) (xs : FVec Ideal S6x2048x16 .f32)
    (ws : FVec Ideal S64 .f32) (e : Fin 64) : (scoresOf xw ww xs ws (ix3 b n e) : EReal)
      = Router.score (fun b n j => xw (ix3 b n j)) (fun b n g => xs (ix3 b n g)) (fun j e => ww (ix2 j e)) (fun e => ws (ix1 e)) b n e := by
  unfold Router.score Body.logit
  pointwise [scoresOf]
  rfl

theorem choice_at (sc : FVec Ideal S6x2048x64 .f32) (eb : FVec Ideal S64 .f32) (e : Fin 64) :
    (choicesOf sc eb (ix3 b n e) : EReal) = (show EReal from sc (ix3 b n e)) + (show EReal from eb (ix1 e)) := by
  pointwise [choicesOf]

theorem grouped_at (ch : FVec Ideal S6x2048x64 .f32) (g j : Fin 8) :
    (shapeCast S6x2048x8x8 ch shapeCasts_S6x2048x64_S6x2048x8x8 (ix4 b n g j) : EReal)
      = ch (ix3 b n (⟨8 * g.val + j.val, by omega⟩ : Fin 64)) := by
  pointwise []
  exact congrArg ch (congrArg (ix3 b n) (Fin.ext (by show g.val * 8 + j.val = 8 * g.val + j.val; omega)))

/-- The values at the two first places are the two greatest. -/
theorem place_two (v : ℕ → EReal) :
    v (place (fun j : Fin 8 => v j.val) 0).val + v (place (fun j : Fin 8 => v j.val) 1).val = twoSum v := by
  have h : ∀ k : Fin 8, k.val < 2 → [(twoOf v).1, (twoOf v).2][k.val]? = some (v (place (fun j : Fin 8 => v j.val) k).val) := by
    intro k hk
    have h := congrArg (Option.map val) (place_spec (fun j : Fin 8 => v j.val) k 2 hk)
    rw [← List.getElem?_map, map_topList val val_mono, List.map_ofFn] at h
    rw [topList_twoOf]
    exact h
  have h0 : some (twoOf v).1 = some _ := h 0 (by decide)
  have h1 : some (twoOf v).2 = some _ := h 1 (by decide)
  unfold twoSum
  rw [Option.some.inj h0, Option.some.inj h1]

variable (ch : FVec Ideal S6x2048x64 .f32) (c : ℕ → EReal) (hc : ∀ e : Fin 64, (ch (ix3 b n e) : EReal) = c e.val)
include hc

/-- The groups' scores. -/
theorem groups_at (g : Fin 8) : (groupsOf ch (ix3 b n g) : EReal) = scoreOf c g.val := by
  have hv : (fun j : Fin 8 => (shapeCast S6x2048x8x8 ch shapeCasts_S6x2048x64_S6x2048x8x8 (ix4 b n g j) : EReal))
      = fun j : Fin 8 => c (8 * g.val + j.val) := by
    funext j
    rw [grouped_at]
    exact hc _
  have hk : ∀ k : Fin 2, ((Host.topK (α := Ideal .f32) S6x2048x8x2 3 (FloatOps.cmpfTotal (φ := .f32) .gt)
        (shapeCast S6x2048x8x8 ch shapeCasts_S6x2048x64_S6x2048x8x8) sliceFits_S6x2048x8x8_S6x2048x8x2).1 (ix4 b n g k) : EReal)
      = c (8 * g.val + (place (fun j : Fin 8 => c (8 * g.val + j.val)) (k.castLE (by decide))).val) := by
    intro k
    refine (topK4 8 2 (by decide) _ sliceFits_S6x2048x8x8_S6x2048x8x2 b n g k).trans ?_
    rw [hv]
    exact congrFun hv _
  pointwise [groupsOf]
  rw [Fin.sum_univ_two]
  refine (congrArg₂ (· + ·) (hk 0) (hk 1)).trans ?_
  exact place_two fun j => c (8 * g.val + j)

/-- The ids of the groups kept. -/
theorem keptIds_at (k : Fin 4) : keptIds (groupsOf ch) (ix3 b n k)
    = BitVec.ofNat 32 (place (fun g : Fin 8 => scoreOf c g.val) (k.castLE (by decide))).val := by
  refine (topK3 8 4 (by decide) _ sliceFits_S6x2048x8_S6x2048x4 b n k).trans ?_
  rw [show (fun e : Fin 8 => (groupsOf ch (ix3 b n e) : EReal)) = fun g : Fin 8 => scoreOf c g.val from funext (groups_at b n ch c hc)]

omit hc in
/-- A group is kept exactly if one of the first four places is its. -/
theorem kept_iff_place (S : ℕ → EReal) (g : Fin 8) :
    kept S g = true ↔ ∃ k : Fin 4, place (fun g : Fin 8 => S g.val) (k.castLE (by decide)) = g := by
  have hlen : (topList 4 (List.ofFn (groupKey S))).length = 4 := by rw [length_topList, List.length_ofFn]; rfl
  have hspec : ∀ k : Fin 4, (topList 4 (List.ofFn (groupKey S)))[k.val]?
      = some (groupKey S (place (fun g : Fin 8 => S g.val) (k.castLE (by decide)))) :=
    fun k => place_spec (fun g : Fin 8 => S g.val) (k.castLE (by decide)) 4 k.isLt
  rw [kept_iff_mem]
  constructor
  · intro h
    obtain ⟨i, hi, e⟩ := List.getElem_of_mem h
    refine ⟨⟨i, by omega⟩, groupKey_injective S (Option.some.inj ((hspec ⟨i, by omega⟩).symm.trans ?_))⟩
    rw [List.getElem?_eq_getElem hi, e]
  · rintro ⟨k, rfl⟩
    exact List.mem_of_getElem? (hspec k)

omit hc in
/-- Of four marks some is set exactly if their sum is positive. -/
theorem marks_sum : ∀ a b c d : Bool, (IntOp.cmpi .sgt (Finset.fold IntOp.addi (0#32)
      (fun x : Fin 4 => BitVec.setWidth 32 (BitVec.ofBool ((![a, b, c, d] : Fin 4 → Bool) x))) Finset.univ) 0#32 = 1#1)
    ↔ ∃ k : Fin 4, (![a, b, c, d] : Fin 4 → Bool) k = true := by
  decide

omit hc in
theorem marks_at (gi : IVec S6x2048x4 32) (g : Fin 8) :
    keptOf (marksOf gi) (ix3 b n g) = 1#1 ↔ ∃ k : Fin 4, gi (ix3 b n k) = BitVec.ofNat 32 g.val := by
  have h := marks_sum (gi (ix3 b n 0) == BitVec.ofNat 32 g.val) (gi (ix3 b n 1) == BitVec.ofNat 32 g.val)
    (gi (ix3 b n 2) == BitVec.ofNat 32 g.val) (gi (ix3 b n 3) == BitVec.ofNat 32 g.val)
  have hx : ∀ k : Fin 4, (![gi (ix3 b n 0) == BitVec.ofNat 32 g.val, gi (ix3 b n 1) == BitVec.ofNat 32 g.val,
      gi (ix3 b n 2) == BitVec.ofNat 32 g.val, gi (ix3 b n 3) == BitVec.ofNat 32 g.val] : Fin 4 → Bool) k
        = (gi (ix3 b n k) == BitVec.ofNat 32 g.val) := by
    intro k
    fin_cases k <;> rfl
  simp only [hx, beq_iff_eq] at h
  pointwise [keptOf, marksOf]
  exact h

/-- Which groups are kept. -/
theorem kept_at (g : Fin 8) : keptOf (marksOf (keptIds (groupsOf ch))) (ix3 b n g) = 1#1 ↔ kept (scoreOf c) g = true := by
  rw [marks_at, kept_iff_place]
  refine exists_congr fun k => ?_
  rw [keptIds_at b n ch c hc, Body.ofNat_inj (by omega) (by omega)]
  exact Fin.ext_iff.symm

omit hc in
theorem spread_at (k : IVec S6x2048x8 1) (e : Fin 64) :
    spreadOf k (ix3 b n e) = k (ix3 b n (⟨e.val / 8, by omega⟩ : Fin 8)) := by
  pointwise [spreadOf]

/-- The masked choices. -/
theorem masked_at (e : Fin 64) : (maskedOf (keptIds (groupsOf ch)) ch (ix3 b n e) : EReal) = masked c e := by
  have hk := kept_at b n ch c hc ⟨e.val / 8, by omega⟩
  have hs := spread_at b n (keptOf (marksOf (keptIds (groupsOf ch)))) e
  unfold masked
  unfold maskedOf select Scalar.select
  rw [hs]
  split_ifs with h1 h2 h2
  · exact hc e
  · exact absurd (hk.1 h1) h2
  · exact absurd (hk.2 h2) h1
  · pointwise []
    simp [Ideal.ofBits, Ideal.ieee]

/-- The ids the reference chooses are the router's. -/
theorem chosen_at (k : Fin 8) : chosen ch (ix3 b n k) = BitVec.ofNat 32 (expert c k).val := by
  refine (topK3 64 8 (by decide) _ sliceFits_S6x2048x64_S6x2048x8 b n k).trans ?_
  have hf : (fun e : Fin 64 => (maskedOf (keptIds (groupsOf ch)) ch (ix3 b n e) : EReal)) = masked c := funext (masked_at b n ch c hc)
  rw [hf]
  have h := place_spec (masked c) (k.castLE (by decide)) 8 k.isLt
  rw [eq_expert c k _ h]

omit hc in
/-- An id below 64 is read where it says, and inside the array. -/
theorem at_at (ids : IVec S6x2048x8 32) (k : Fin 8) (e : Fin 64) (h : ids (ix3 b n k) = BitVec.ofNat 32 e.val) :
    atOf ids (ix4 b n k 0) = BitVec.ofNat 32 e.val := by
  pointwise [atOf]
  rw [h]
  exact (by decide : ∀ e : Fin 64, Scalar.select (IntOp.cmpi .slt (BitVec.ofNat 32 e.val) 0#32)
    (IntOp.addi (BitVec.ofNat 32 e.val) 64#32) (BitVec.ofNat 32 e.val) = BitVec.ofNat 32 e.val) e

omit hc in
theorem inside_at (p : IVec S6x2048x8x1 32) (k : Fin 8) (e : Fin 64) (h : p (ix4 b n k 0) = BitVec.ofNat 32 e.val) :
    insideOf p (ix3 b n k) = 1#1 := by
  have hx : ∀ x : Fin 1, p (ix4 b n k x) = BitVec.ofNat 32 e.val := fun x => by rw [Subsingleton.elim x 0, h]
  pointwise [insideOf]
  simp only [hx]
  exact (by decide : ∀ e : Fin 64, Finset.fold IntOp.andi (1#1) (fun _ : Fin 1 =>
    IntOp.andi (IntOp.cmpi .sge (BitVec.ofNat 32 e.val) 0#32) (IntOp.cmpi .sle (BitVec.ofNat 32 e.val) 63#32)) Finset.univ = 1#1) e

omit hc in
/-- The score picked at an id below 64 is that expert's. -/
theorem picked_at (sc : FVec Ideal S6x2048x64 .f32) (ids : IVec S6x2048x8 32) (k : Fin 8) (e : Fin 64)
    (h : ids (ix3 b n k) = BitVec.ofNat 32 e.val) : (pickedAt sc (atOf ids) (ix3 b n k) : EReal) = sc (ix3 b n e) := by
  have hp := at_at b n ids k e h
  unfold pickedAt select Scalar.select
  rw [if_pos (show insideOf (atOf ids) (ix3 b n k) = 1 from inside_at b n (atOf ids) k e hp)]
  exact gather_at sc (atOf ids) b n k e hp

omit hc in
theorem weights_at (pk : FVec Ideal S6x2048x8 .f32) (k : Fin 8) : (weightsOf pk (ix3 b n k) : EReal)
    = Ideal.div (show EReal from pk (ix3 b n k)) (∑ i : Fin 8, (show EReal from pk (ix3 b n i))) * Ideal.ofBits .f32 0x40200000#32 := by
  pointwise [weightsOf]

omit hc in
/-- The weights the reference gives are the router's. -/
theorem weight_at (sc : FVec Ideal S6x2048x64 .f32) (σ β : Fin 64 → EReal) (hσ : ∀ e : Fin 64, (sc (ix3 b n e) : EReal) = σ e)
    (hc : ∀ e : Fin 64, (ch (ix3 b n e) : EReal) = choiceOf σ β e.val) (k : Fin 8) :
    (weightsOf (pickedAt sc (atOf (chosen ch))) (ix3 b n k) : EReal) = weightOf σ β k := by
  have hp : ∀ k : Fin 8, (pickedAt sc (atOf (chosen ch)) (ix3 b n k) : EReal) = σ (expert (choiceOf σ β) k) := fun k =>
    (picked_at b n sc (chosen ch) k _ (chosen_at b n ch (choiceOf σ β) hc k)).trans (hσ _)
  rw [weights_at]
  unfold weightOf
  simp only [hp]

end Cert.Ref

end
-- ==== Proof.ReferenceRun.lean ====
/- What the reference's run leaves in its two results: the stages of Stages.lean, of the arguments. Its kernel copies the
   codes and the weights at another width, which no value notices. -/
module

public import proofs.«01_k».proof.Proof.Stages
public import proofs.«01_k».proof.Proof.ReferenceValue
public import Idealize.ShloMosaic.Lib.Pipeline.ValueKit
public import Idealize.ShloMosaic.Lib.Claim

@[expose] public section

set_option maxRecDepth 16384

noncomputable section

namespace Cert.Ref

open Idealize.ShloMosaic Idealize.ShloMosaic.TcCoe Idealize.SL.Sem Cert.ReferenceIdeal Cert.ReferenceIdeal.Gen
open Idealize.ShloMosaic.Pipeline (Dat)

variable (m : (ℓ : Loc nD τ sig) → Buf (Elt Ideal) ℓ) (ρ : Dev nD → PrngReg) (c : Dev nD)

theorem idx : ∀ t : Fin cfg0.N, win0_0.index t = ![0, 0, 0] ∧ win0_1.index t = ![0, 0] ∧ win0_2.index t = ![0, 0, 0]
    ∧ win0_3.index t = ![0, 0] :=
  (by decide +kernel : ∀ t : Fin grid0.N, win0_0.index t = ![0, 0, 0] ∧ win0_1.index t = ![0, 0] ∧ win0_2.index t = ![0, 0, 0]
    ∧ win0_3.index t = ![0, 0])

/-- The widened codes are the codes, … -/
theorem wide_codes : (dats m 0 c).arrAt 2 (cfgs 0).N
    = (fun i => (m ((c : Thread nD τ).loc main_arg0) : S6x2048x2048.Idx → EReal) i : S6x2048x2048.Idx → EReal) := by
  refine (dats m 0 c).arrAt_eq_of_after_last 2 t0_0 (by decide +kernel) _ fun j => ?_
  blk_simp
  rw [after0_2]
  frame_out
  blk_point [iblk, V, idx t0_0]

/-- … and the widened weights the weights. -/
theorem wide_weights : (dats m 0 c).arrAt 3 (cfgs 0).N
    = (fun i => (m ((c : Thread nD τ).loc main_arg2) : S2048x64.Idx → EReal) i : S2048x64.Idx → EReal) := by
  refine (dats m 0 c).arrAt_eq_of_after_last 3 t0_0 (by decide +kernel) _ fun j => ?_
  blk_simp
  rw [after0_3]
  frame_out
  blk_point [iblk, V, idx t0_0]

/-- What the region leaves behind: its two arrays written, everything else as it was. -/
abbrev left : Valuation τ sig (Elt Ideal) :=
  Pipeline.withArrays (cfgs 0).spec c (V0 m c) fun w => (dats m 0 c).arrAt w (cfgs 0).N

theorem left_codes (i : S6x2048x2048.Idx) : ((left m c (Proc.devRef .tc main_v0_0) : FVec Ideal S6x2048x2048 .bf16) i : EReal)
    = (m ((c : Thread nD τ).loc main_arg0) : S6x2048x2048.Idx → EReal) i :=
  congrFun ((Pipeline.withArrays_arr (cfgs 0).spec launch0.win.arr_inj c (V0 m c) _ 2).trans (wide_codes m c)) i

theorem left_weights (i : S2048x64.Idx) : ((left m c (Proc.devRef .tc main_v0_1) : FVec Ideal S2048x64 .bf16) i : EReal)
    = (m ((c : Thread nD τ).loc main_arg2) : S2048x64.Idx → EReal) i :=
  congrFun ((Pipeline.withArrays_arr (cfgs 0).spec launch0.win.arr_inj c (V0 m c) _ 3).trans (wide_weights m c)) i

theorem left_arg1 : left m c (Proc.devRef .tc main_arg1) = m ((c : Thread nD τ).loc main_arg1) :=
  (Pipeline.withArrays_of_ne _ c (V0 m c) _ main_arg1 (by exact (by decide : ∀ w, Pipeline.arrRef spec0 w ≠ main_arg1))).trans
    (V_main_arg1 m c)
theorem left_arg3 : left m c (Proc.devRef .tc main_arg3) = m ((c : Thread nD τ).loc main_arg3) :=
  (Pipeline.withArrays_of_ne _ c (V0 m c) _ main_arg3 (by exact (by decide : ∀ w, Pipeline.arrRef spec0 w ≠ main_arg3))).trans
    (V_main_arg3 m c)
theorem left_arg4 : left m c (Proc.devRef .tc main_arg4) = m ((c : Thread nD τ).loc main_arg4) :=
  (Pipeline.withArrays_of_ne _ c (V0 m c) _ main_arg4 (by exact (by decide : ∀ w, Pipeline.arrRef spec0 w ≠ main_arg4))).trans
    (V_main_arg4 m c)

/-! The reference's arguments, by plain indices. -/

def X (b : Fin 6) (n j : Fin 2048) : EReal := (m ((c : Thread nD τ).loc main_arg0) : Vec Ideal S6x2048x2048 .fp8e4m3) (ix3 b n j)
def Sc (b : Fin 6) (n : Fin 2048) (g : Fin 16) : EReal := (m ((c : Thread nD τ).loc main_arg1) : Vec Ideal S6x2048x16 .f32) (ix3 b n g)
def W (j : Fin 2048) (e : Fin 64) : EReal := (m ((c : Thread nD τ).loc main_arg2) : Vec Ideal S2048x64 .fp8e4m3) (ix2 j e)
def Ws (e : Fin 64) : EReal := (m ((c : Thread nD τ).loc main_arg3) : Vec Ideal S64 .f32) (ix1 e)
def Eb (e : Fin 64) : EReal := (m ((c : Thread nD τ).loc main_arg4) : Vec Ideal S64 .f32) (ix1 e)

/-- The scores after the region are the router's, … -/
theorem left_scores (b : Fin 6) (n : Fin 2048) (e : Fin 64) :
    (scoresIn (left m c) (ix3 b n e) : EReal) = Router.score (X m c) (Sc m c) (W m c) (Ws m c) b n e := by
  refine (score_at b n _ _ _ _ e).trans ?_
  rw [show (fun b n j => (left m c (Proc.devRef .tc main_v0_0) : FVec Ideal S6x2048x2048 .bf16) (ix3 b n j)) = X m c from
      funext fun b => funext fun n => funext fun j => left_codes m c (ix3 b n j),
    show (fun b n g => (left m c (Proc.devRef .tc main_arg1) : FVec Ideal S6x2048x16 .f32) (ix3 b n g)) = Sc m c from
      funext fun b => funext fun n => funext fun g => congrFun (left_arg1 m c) (ix3 b n g),
    show (fun j e => (left m c (Proc.devRef .tc main_v0_1) : FVec Ideal S2048x64 .bf16) (ix2 j e)) = W m c from
      funext fun j => funext fun e => left_weights m c (ix2 j e),
    show (fun e => (left m c (Proc.devRef .tc main_arg3) : FVec Ideal S64 .f32) (ix1 e)) = Ws m c from
      funext fun e => congrFun (left_arg3 m c) (ix1 e)]

/-- … and so are the choices. -/
theorem left_choices (b : Fin 6) (n : Fin 2048) (e : Fin 64) :
    (choicesIn (left m c) (ix3 b n e) : EReal)
      = Keys.choiceOf (Router.score (X m c) (Sc m c) (W m c) (Ws m c) b n) (Eb m c) e.val := by
  refine (choice_at b n _ _ e).trans ?_
  have he : (Fin.ofNat 64 e.val : Fin 64) = e := Fin.ext (Nat.mod_eq_of_lt e.isLt)
  unfold Keys.choiceOf
  rw [he]
  exact congrArg₂ (· + ·) (left_scores m c b n e) (congrFun (left_arg4 m c) (ix1 e))

/-- The reference's ids and weights, as whole arrays. -/
def idsR : IVec S6x8x2048 32 := fun i =>
  Router.chosenId (X m c) (Sc m c) (W m c) (Ws m c) (Eb m c) (i 0) (i 2) (i 1)
def weightsR : FVec Ideal S6x8x2048 .f32 := fun i =>
  (Router.chosenWeight (X m c) (Sc m c) (W m c) (Ws m c) (Eb m c) (i 0) (i 2) (i 1) : EReal)

theorem turned {α : Type} (x : S6x2048x8.Idx → α) (b : Fin 6) (k : Fin 8) (n : Fin 2048) :
    transpose S6x8x2048 [0, 2, 1] x transposes_S6x2048x8_S6x8x2048_0_2_1 (ix3 b k n) = x (ix3 b n k) := by
  pointwise []

theorem ids_left : StableHlo.after [hostOps1, hostOps1_1, hostOps1_2, hostOps1_3, hostOps1_4, hostOps1_5, hostOps1_6].flatten (left m c)
    (Proc.devRef .tc main_v36) = idsR m c := by
  rw [tail_ids]
  funext i
  rw [eq_ix3 i]
  exact (turned _ (i 0) (i 1) (i 2)).trans (chosen_at (i 0) (i 2) _ _ (left_choices m c (i 0) (i 2)) (i 1))

theorem weights_left : StableHlo.after [hostOps1, hostOps1_1, hostOps1_2, hostOps1_3, hostOps1_4, hostOps1_5, hostOps1_6].flatten (left m c)
    (Proc.devRef .tc main_v37) = weightsR m c := by
  rw [tail_weights]
  funext i
  rw [eq_ix3 i]
  exact (turned _ (i 0) (i 1) (i 2)).trans
    (weight_at (i 0) (i 2) _ _ _ _ (left_scores m c (i 0) (i 2)) (left_choices m c (i 0) (i 2)) (i 1))

/-- The reference's run: it ends with the router's ids and weights in its results and its arguments unchanged. -/
theorem run : θ_run defs (onTc (τ := τ) (main (F := Ideal))) ⟨m, fun _ => 0, ρ⟩ fun r => ∀ c : Dev nD,
      r.2.mem ((c : Thread nD τ).loc main_v36) = idsR m c
      ∧ r.2.mem ((c : Thread nD τ).loc main_v37) = weightsR m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  run_from Cert.ReferenceIdeal.Gen.run_main m ρ
  · exact ids_left m _
  · exact weights_left m _
  · exact W_main_arg1 m _ _
  · exact W_main_arg3 m _ _
  · exact W_main_arg4 m _ _

end Cert.Ref

end
-- ==== Proof.Scales.lean ====
/- What the precondition says of the scales: every one is at least zero and none is infinite. -/
module

public import proofs.«01_k».proof.Defs
public import Idealize.ShloMosaic.Lib.ReduceAll
public import Idealize.ShloMosaic.Lib.Pointwise

@[expose] public section

noncomputable section

namespace Cert.Scales

open Idealize.ShloMosaic Cert.Pre_scales_in_range

/-- The shape relations the predicate states. -/
theorem facts : Cert.Pre_scales_in_range.Facts where
  bcast_S_S6x2048x16 := by decide
  reducesTo_S6x2048x16_S_d0_1_2 := by decide
  h_S_ := by decide

theorem of_bit : ∀ b : Bool, BitVec.ofBool b = 1#1 → b = true := by decide

variable [Cert.Pre_scales_in_range.Facts]

theorem in_range (a0 : FVec Ideal S6x2048x2048 .fp8e4m3) (a1 : FVec Ideal S6x2048x16 .f32) (a2 : FVec Ideal S2048x64 .fp8e4m3)
    (a3 a4 : FVec Ideal S64 .f32) (h : Cert.Pre_scales_in_range.fn (F := Ideal) a0 a1 a2 a3 a4 = fun _ => 1#1) (i : S6x2048x16.Idx) :
    (0 : EReal) ≤ a1 i ∧ (a1 i : EReal) ≠ ⊤ := by
  have hi := Host.reduce_andi_all _ _ _ _ (fun d => d.elim0) (congrFun h _) i
  obtain ⟨h0, h1⟩ := IntOp.andi_eq_one.1 hi
  have g0 : (cmpf .oge a1 (broadcastInDim S6x2048x16 ![] Facts.bcast_S_S6x2048x16 (constant (F := Ideal) S_ .f32 0x00000000#32)) i) = 1#1 := h0
  have g1 : (cmpf .olt a1 (broadcastInDim S6x2048x16 ![] Facts.bcast_S_S6x2048x16 (constant (F := Ideal) S_ .f32 0x7F800000#32)) i) = 1#1 := h1
  clear h0 h1 hi
  pointwise [] at g0 g1
  have top : Ideal.ofBits FTy.f32 2139095040#32 = (⊤ : EReal) := by simp [Ideal.ofBits, Ideal.ieee]
  rw [top] at g1
  exact ⟨of_decide_eq_true (of_bit _ g0), ne_of_lt (of_decide_eq_true (of_bit _ g1))⟩

end Cert.Scales

end
-- ==== Proof.Equation.lean ====
/- Under the precondition the kernel and the reference, run on the same arguments, end with the same results. -/
module

public import proofs.«01_k».proof.Proof.KernelValue
public import proofs.«01_k».proof.Proof.ReferenceRun
public import proofs.«01_k».proof.Proof.Scales

@[expose] public section

noncomputable section

namespace Cert.Equation

open Idealize.ShloMosaic Idealize.ShloMosaic.TcCoe Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The two memories hold the same arguments. -/
abbrev Agree : Prop := ∀ c : Dev KernelIdeal.nD,
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)

variable (c : Dev KernelIdeal.nD) {m m'}

section
variable (h : Agree m m')
include h

theorem x_eq : Ref.X m' c = Body.X m c :=
  funext fun b => funext fun n => funext fun j => congrFun (h c).1 (ix3 b n j)
theorem sc_eq : Ref.Sc m' c = Body.Sc m c :=
  funext fun b => funext fun n => funext fun g => congrFun (h c).2.1 (ix3 b n g)
theorem w_eq : Ref.W m' c = Body.W m c :=
  funext fun j => funext fun e => congrFun (h c).2.2.1 (ix2 j e)
theorem ws_eq : Ref.Ws m' c = Body.Ws m c := funext fun e => congrFun (h c).2.2.2.1 (ix1 e)
theorem eb_eq : Ref.Eb m' c = Body.Eb m c := funext fun e => congrFun (h c).2.2.2.2 (ix1 e)

variable [Pre_scales_in_range.Facts] (hpre : Pre_KernelIdeal_scales_in_range m)
include hpre

theorem ids_eq : Ref.idsR m' c = KernelIdeal.Value.G5 m c := by
  have hs := Scales.in_range _ _ _ _ _ (hpre c)
  funext i
  rw [eq_ix3 i]
  refine Eq.trans ?_ (Body.ids_array m c (fun b n g => (hs (ix3 b n g)).1) (fun b n g => (hs (ix3 b n g)).2) (i 0) (i 1) (i 2)).symm
  rw [← x_eq c h, ← sc_eq c h, ← w_eq c h, ← ws_eq c h, ← eb_eq c h]
  rfl

theorem weights_eq : Ref.weightsR m' c = KernelIdeal.Value.G6 m c := by
  have hs := Scales.in_range _ _ _ _ _ (hpre c)
  funext i
  rw [eq_ix3 i]
  refine Eq.trans ?_ (Body.weights_array m c (fun b n g => (hs (ix3 b n g)).1) (fun b n g => (hs (ix3 b n g)).2) (i 0) (i 1) (i 2)).symm
  rw [← x_eq c h, ← sc_eq c h, ← w_eq c h, ← ws_eq c h, ← eb_eq c h]
  rfl

end

/-- The value claim. -/
theorem algebraic [Pre_scales_in_range.Facts] : algebraic_KernelIdeal_ReferenceIdeal_pre_scales_in_range := by
  intro m g m' g' hpre h
  refine ⟨fun c => KernelIdeal.Value.G5 m c, fun c => KernelIdeal.Value.G6 m c, KernelIdeal.Value.run m g, ?_⟩
  refine (θ_run _ _ _).mono (fun r hr c => ?_) (Ref.run m' g')
  exact ⟨(hr c).1.trans (ids_eq c h hpre), (hr c).2.1.trans (weights_eq c h hpre), (hr c).2.2⟩

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The frames of the kernel, of the kernel read at the ideal instance and of the reference; that the ideal reading
    rewrote nothing; and that kernel and reference return the same two arrays (Proof/Equation.lean). -/
theorem claim : Cert.Claim :=
  ⟨Cert.Kernel.Gen.facts, Cert.KernelIdeal.Gen.facts, Cert.ReferenceIdeal.Gen.facts, Cert.Scales.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    trivial,
    @Cert.Equation.algebraic Cert.Scales.facts⟩

end Cert.Proof

end
